-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![16, 128, 256]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![32, 256]⟩ ⟨2, ![256, 256]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v29) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x16 : Shape := ⟨2, ![128, 16]⟩
abbrev S256x1 : Shape := ⟨2, ![256, 1]⟩
abbrev S2x128x256 : Shape := ⟨3, ![2, 128, 256]⟩
abbrev S32x256 : Shape := ⟨2, ![32, 256]⟩
abbrev S256x256 : Shape := ⟨2, ![256, 256]⟩
abbrev S8x32x256 : Shape := ⟨3, ![8, 32, 256]⟩
abbrev S8 : Shape := ⟨1, ![8]⟩
abbrev S_ : Shape := ⟨0, ![]⟩
abbrev S256x16 : Shape := ⟨2, ![256, 16]⟩
abbrev S256 : Shape := ⟨1, ![256]⟩
abbrev S1x128x256 : Shape := ⟨3, ![1, 128, 256]⟩
abbrev S128x256 : Shape := ⟨2, ![128, 256]⟩
abbrev S1 : Shape := ⟨1, ![1]⟩
abbrev S1x32x256 : Shape := ⟨3, ![1, 32, 256]⟩

abbrev nBuf : Space → Nat
  | .hbm => 5
  | .vmem => 6
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S2x128x256, .f32⟩
  | .hbm, ⟨4, _⟩ => ⟨S32x256, .f32⟩
  | .local _ .vmem, ⟨0, _⟩ => ⟨S256x128, .f32⟩
  | .local _ .vmem, ⟨1, _⟩ => ⟨S256x1, .i32⟩
  | .local _ .vmem, ⟨2, _⟩ => ⟨S2x128x256, .f32⟩
  | .local _ .vmem, ⟨3, _⟩ => ⟨S32x256, .f32⟩
  | .local _ .vmem, ⟨4, _⟩ => ⟨S256x256, .f32⟩
  | .local _ .vmem, ⟨5, _⟩ => ⟨S8x32x256, .f32⟩
  | _, _ => ⟨S256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_50 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v86 : BitVec 32 := Scalar.addi v2 c1_i32_50
  let c8_i32_51 : BitVec 32 := 8#32
  let v87 : BitVec 32 := Scalar.remsi v86 c8_i32_51
  let c32_i32 : BitVec 32 := 32#32
  let v88 : BitVec 32 := Scalar.muli v87 c32_i32
  let c0_i32_59 : BitVec 32 := 0#32
  ![v88.toNat, 0]
def k0_dev8 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_50 : BitVec 32 := 1#32
  let v86 : BitVec 32 := Scalar.addi v2 c1_i32_50
  let c8_i32_51 : BitVec 32 := 8#32
  let v87 : BitVec 32 := Scalar.remsi v86 c8_i32_51
  let c1_i32_55 : BitVec 32 := 1#32
  let v89 : BitVec 32 := Scalar.muli v87 c1_i32_55
  let v90 : BitVec 32 := Scalar.addi c0_i32_56 v89
  v90.toNat
def k0_dev9 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v98 : BitVec 32 := Scalar.addi v2 c2_i32_60
  let c8_i32_61 : BitVec 32 := 8#32
  let v99 : BitVec 32 := Scalar.remsi v98 c8_i32_61
  let c1_i32_66 : BitVec 32 := 1#32
  let v101 : BitVec 32 := Scalar.muli v99 c1_i32_66
  let v102 : BitVec 32 := Scalar.addi c0_i32_67 v101
  v102.toNat
def k0_dev10 (d0 : Dev nD) : Nat :=
  let c0_i32_78 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_71 : BitVec 32 := 3#32
  let v110 : BitVec 32 := Scalar.addi v2 c3_i32_71
  let c8_i32_72 : BitVec 32 := 8#32
  let v111 : BitVec 32 := Scalar.remsi v110 c8_i32_72
  let c1_i32_77 : BitVec 32 := 1#32
  let v113 : BitVec 32 := Scalar.muli v111 c1_i32_77
  let v114 : BitVec 32 := Scalar.addi c0_i32_78 v113
  v114.toNat
def k0_dev11 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_82 : BitVec 32 := 4#32
  let v122 : BitVec 32 := Scalar.addi v2 c4_i32_82
  let c8_i32_83 : BitVec 32 := 8#32
  let v123 : BitVec 32 := Scalar.remsi v122 c8_i32_83
  let c1_i32_88 : BitVec 32 := 1#32
  let v125 : BitVec 32 := Scalar.muli v123 c1_i32_88
  let v126 : BitVec 32 := Scalar.addi c0_i32_89 v125
  v126.toNat
def k0_dev12 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_93 : BitVec 32 := 5#32
  let v134 : BitVec 32 := Scalar.addi v2 c5_i32_93
  let c8_i32_94 : BitVec 32 := 8#32
  let v135 : BitVec 32 := Scalar.remsi v134 c8_i32_94
  let c1_i32_99 : BitVec 32 := 1#32
  let v137 : BitVec 32 := Scalar.muli v135 c1_i32_99
  let v138 : BitVec 32 := Scalar.addi c0_i32_100 v137
  v138.toNat
def k0_dev13 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_104 : BitVec 32 := 6#32
  let v146 : BitVec 32 := Scalar.addi v2 c6_i32_104
  let c8_i32_105 : BitVec 32 := 8#32
  let v147 : BitVec 32 := Scalar.remsi v146 c8_i32_105
  let c1_i32_110 : BitVec 32 := 1#32
  let v149 : BitVec 32 := Scalar.muli v147 c1_i32_110
  let v150 : BitVec 32 := Scalar.addi c0_i32_111 v149
  v150.toNat
def k0_dev14 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_115 : BitVec 32 := 7#32
  let v158 : BitVec 32 := Scalar.addi v2 c7_i32_115
  let c8_i32_116 : BitVec 32 := 8#32
  let v159 : BitVec 32 := Scalar.remsi v158 c8_i32_116
  let c1_i32_121 : BitVec 32 := 1#32
  let v161 : BitVec 32 := Scalar.muli v159 c1_i32_121
  let v162 : BitVec 32 := Scalar.addi c0_i32_122 v161
  v162.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_126 : BitVec 32 := 32#32
  let v170 : BitVec 32 := Scalar.muli v2 c32_i32_126
  let v171 : Index := Scalar.indexCast v170
  let c0_127 : Index := 0#32
  ![v171.toNat, 0]
abbrev stage0_0 : Fin 1 → Memref sig .tc .vmem S256x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x128 : Shape := ⟨2, ![256, 128]⟩
abbrev S128x16 : Shape := ⟨2, ![128, 16]⟩
abbrev S256x1 : Shape := ⟨2, ![256, 1]⟩
abbrev S16x128x256 : Shape := ⟨3, ![16, 128, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S16 : Shape := ⟨1, ![16]⟩
abbrev S1x16 : Shape := ⟨2, ![1, 16]⟩
abbrev S256x16 : Shape := ⟨2, ![256, 16]⟩
abbrev S256x16x256 : Shape := ⟨3, ![256, 16, 256]⟩
abbrev S256x16x1 : Shape := ⟨3, ![256, 16, 1]⟩

abbrev nBuf : Space → Nat
  | .hbm => 41
  | .vmem => 0
  | .smem => 0
  | _ => 0

abbrev bufTy : (tb : Table) → Fin (tcTables nBuf tb) → BufTy
  | .hbm, ⟨0, _⟩ => ⟨S256x128, .f32⟩
  | .hbm, ⟨1, _⟩ => ⟨S128x16, .f32⟩
  | .hbm, ⟨2, _⟩ => ⟨S256x1, .i32⟩
  | .hbm, ⟨3, _⟩ => ⟨S16x128x256, .f32⟩
  | .hbm, ⟨4, _⟩ => ⟨S256, .i32⟩
  | .hbm, ⟨5, _⟩ => ⟨S256, .i32⟩
  | .hbm, ⟨6, _⟩ => ⟨S256x1, .i32⟩
  | .hbm, ⟨7, _⟩ => ⟨S1x256, .i32⟩
  | .hbm, ⟨8, _⟩ => ⟨S256x256, .i32⟩
  | .hbm, ⟨9, _⟩ => ⟨S256x256, .i32⟩
  | .hbm, ⟨10, _⟩ => ⟨S256x256, .i1⟩
  | .hbm, ⟨11, _⟩ => ⟨S1x256, .i32⟩
  | .hbm, ⟨12, _⟩ => ⟨S256x1, .i32⟩
  | .hbm, ⟨13, _⟩ => ⟨S256x256, .i32⟩
  | .hbm, ⟨14, _⟩ => ⟨S256x256, .i32⟩
  | .hbm, ⟨15, _⟩ => ⟨S256x256, .i1⟩
  | .hbm, ⟨16, _⟩ => ⟨S256x256, .i1⟩
  | .hbm, ⟨17, _⟩ => ⟨S256x256, .i32⟩
  | .hbm, ⟨18, _⟩ => ⟨S_, .i32⟩
  | .hbm, ⟨19, _⟩ => ⟨S256, .i32⟩
  | .hbm, ⟨20, _⟩ => ⟨S256x1, .i32⟩
  | .hbm, ⟨21, _⟩ => ⟨S16, .i32⟩
  | .hbm, ⟨22, _⟩ => ⟨S1x16, .i32⟩
  | .hbm, ⟨23, _⟩ => ⟨S256x16, .i32⟩
  | .hbm, ⟨24, _⟩ => ⟨S256x16, .i32⟩
  | .hbm, ⟨25, _⟩ => ⟨S256x16, .i1⟩
  | .hbm, ⟨26, _⟩ => ⟨S_, .i32⟩
  | .hbm, ⟨27, _⟩ => ⟨S256, .i32⟩
  | .hbm, ⟨28, _⟩ => ⟨S256, .i1⟩
  | .hbm, ⟨29, _⟩ => ⟨S256x1, .i1⟩
  | .hbm, ⟨30, _⟩ => ⟨S256x16, .i1⟩
  | .hbm, ⟨31, _⟩ => ⟨S256x16, .i1⟩
  | .hbm, ⟨32, _⟩ => ⟨S256x16x256, .f32⟩
  | .hbm, ⟨33, _⟩ => ⟨S256x16x1, .i1⟩
  | .hbm, ⟨34, _⟩ => ⟨S_, .f32⟩
  | .hbm, ⟨35, _⟩ => ⟨S_, .f32⟩
  | .hbm, ⟨36, _⟩ => ⟨S256x16x256, .i1⟩
  | .hbm, ⟨37, _⟩ => ⟨S256x16x256, .f32⟩
  | .hbm, ⟨38, _⟩ => ⟨S256x16x256, .f32⟩
  | .hbm, ⟨39, _⟩ => ⟨S_, .f32⟩
  | .hbm, ⟨40, _⟩ => ⟨S256x256, .f32⟩
  | _, _ => ⟨S256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_0 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_cst_1 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Proof.Protocol.lean ====
/-
# The exchange of row blocks: devices, views, semaphore cells and the schedule of payments

Eight devices each hold a 256×256 accumulator and end with one block of 32 rows of the sum of all eight. Device `c`
sends rows `32·d … 32·d+31` of its accumulator to device `d`, into a landing slot of `d` that is indexed by how far
`c` lies ahead of `d` on the ring of devices. Slots 1 … 7 are used; this file numbers them by `j : Fin 7`, so that
`j` stands for slot `j + 1`.

Every pair of devices first shakes hands on the runtime's barrier semaphore. A device that signals hands over, with
its signal, the landing slot the receiver of the signal is going to write.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The rounds library's ghost state for the exchange; its duties are numbered by `Fin 7`. -/
abbrev UB : Type := URounds (GSem nD τ sig) (Fin 7)
/-- The ghost state of the whole run: the pipeline's and the exchange's. -/
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Devices -/

set_option backward.proofsInPublic true in
/-- The device that writes slot `j + 1` of device `c`. -/
def peer (c : Dev nD) (j : Fin 7) : Dev nD := ⟨(c.val + (j.val + 1)) % 8, Nat.mod_lt _ (by decide)⟩
set_option backward.proofsInPublic true in
/-- The device whose slot `j + 1` is written by device `c`. -/
def tgt (c : Dev nD) (j : Fin 7) : Dev nD := ⟨(c.val + (7 - j.val)) % 8, Nat.mod_lt _ (by decide)⟩

theorem peer_tgt (c : Dev nD) (j : Fin 7) : peer (tgt c j) j = c := by revert c j; decide
theorem tgt_peer (c : Dev nD) (j : Fin 7) : tgt (peer c j) j = c := by revert c j; decide

/-- For a fixed slot, "who writes it" is a permutation of the devices. -/
def shift (j : Fin 7) : Dev nD ≃ Dev nD := ⟨fun c => tgt c j, fun c => peer c j, fun c => peer_tgt c j, fun c => tgt_peer c j⟩

/-! ## Views -/

/-- The accumulator and the landing buffer, whole. -/
abbrev accM : Memref sig .tc .vmem S256x256 .f32 := Memref.whole cc0_scratch0
abbrev commM : Memref sig .tc .vmem S8x32x256 .f32 := Memref.whole cc0_scratch1

theorem row_inb (d : Dev nD) : ∀ a, (![32 * d.val, 0] : Fin 2 → Nat) a + S32x256.size a ≤ S256x256.size a := by
  revert d; decide
theorem slot_inb (s : Fin 8) : ∀ a, (![s.val, 0, 0] : Fin 3 → Nat) a + S1x32x256.size a ≤ S8x32x256.size a := by
  revert s; decide
theorem sem_inb (s : Fin 8) : ∀ a, (![s.val] : Fin 1 → Nat) a + S1.size a ≤ S8.size a := by
  revert s; decide

/-- The rectangle of row block `d` of the accumulator. -/
abbrev rowR (d : Dev nD) : Rect S256x256 := Rect.unit (s := S256x256) ![32 * d.val, 0] S32x256.size (row_inb d)
/-- The rectangle of slot `s` of the landing buffer. -/
abbrev slotR (s : Fin 8) : Rect S8x32x256 := Rect.unit (s := S8x32x256) ![s.val, 0, 0] S1x32x256.size (slot_inb s)

/-- Row block `d` of the accumulator. -/
abbrev rowM (d : Dev nD) : Memref sig .tc .vmem S32x256 .f32 := accM.slice (rowR d) (fun _ => rfl)
/-- Slot `s` of the landing buffer, as a 32×256 block. -/
abbrev slotM (s : Fin 8) : Memref sig .tc .vmem S32x256 .f32 :=
  (commM.slice (slotR s) (fun _ => rfl)).squeeze S32x256 squeezes_S1x32x256_S32x256

/-- The send and the receive semaphore of slot `s`. -/
abbrev sendS (s : Fin 8) : DmaSem sig :=
  ((cc0_scratch2.slice (Rect.unit (s := S8) ![s.val] S1.size (sem_inb s))).squeeze S_ squeezes_S1_S_).sem
abbrev recvS (s : Fin 8) : DmaSem sig :=
  ((cc0_scratch3.slice (Rect.unit (s := S8) ![s.val] S1.size (sem_inb s))).squeeze S_ squeezes_S1_S_).sem
/-- The runtime's barrier semaphore of collective id 0. -/
abbrev barS : Sem sig := (SemArray.scalar (sig.barrier 0 rfl) : Sems sig S_).sem

/-! ## Cells -/

/-- The semaphores of the exchange on one device: the barrier, seven send, seven receive. -/
abbrev Kd : Type := Unit ⊕ (Fin 7 ⊕ Fin 7)

/-- The semaphore of each kind. -/
abbrev csem : Kd → SemLoc sig
  | .inl _ => .reg barS
  | .inr (.inl j) => .dma (sendS j.succ)
  | .inr (.inr j) => .dma (recvS j.succ)

abbrev barCell (c : Dev nD) : GSem nD τ sig := ((c : Thread nD τ), .reg barS)
abbrev sendCell (c : Dev nD) (j : Fin 7) : GSem nD τ sig := ((c : Thread nD τ), .dma (sendS j.succ))
abbrev recvCell (c : Dev nD) (j : Fin 7) : GSem nD τ sig := ((c : Thread nD τ), .dma (recvS j.succ))
abbrev kcell (ck : Dev nD × Kd) : GSem nD τ sig := ((ck.1 : Thread nD τ), csem ck.2)

theorem csem_injective : Function.Injective csem := by decide +kernel

/-- Which of the exchange's semaphores a semaphore is, if any. -/
def kindOf (s : SemLoc sig) : Option Kd := if h : ∃ k, csem k = s then some h.choose else none

theorem kindOf_csem (k : Kd) : kindOf (csem k) = some k := by
  have h : ∃ k', csem k' = csem k := ⟨k, rfl⟩
  unfold kindOf; rw [dif_pos h]; exact congrArg some (csem_injective h.choose_spec)

theorem kindOf_eq {s : SemLoc sig} {k : Kd} (h : kindOf s = some k) : s = csem k := by
  unfold kindOf at h; split at h
  · rename_i h'; rw [← Option.some.inj h]; exact h'.choose_spec.symm
  · exact absurd h (by simp)

theorem kindOf_none {s : SemLoc sig} (h : ∀ k, csem k ≠ s) : kindOf s = none :=
  dif_neg fun ⟨k, hk⟩ => h k hk

theorem kind_bar : kindOf (.reg barS) = some (.inl ()) := kindOf_csem (.inl ())
theorem kind_send (j : Fin 7) : kindOf (.dma (sendS j.succ)) = some (.inr (.inl j)) := kindOf_csem (.inr (.inl j))
theorem kind_recv (j : Fin 7) : kindOf (.dma (recvS j.succ)) = some (.inr (.inr j)) := kindOf_csem (.inr (.inr j))

/-- What a transfer of one 32×256 block adds to its semaphores. -/
abbrev N : ℕ := (slotM 0).view.dmaCredit
theorem N_pos : 0 < N := View.dmaCredit_pos _ (by decide)

/-! ## What is held

`A s` is device `s`'s accumulator once it is computed. -/

variable (A : Dev nD → (cc0_scratch0 : Ref sig .tc).ty.Contents (Elt F))

/-- Row block `d` of device `s`'s accumulator. -/
def rowV (d s : Dev nD) : Vec F S32x256 .f32 := (rowM d).view.read (Elt F) (A s)

/-- Slot `s` of device `c`'s landing buffer held at contents `f`. -/
def slotPts (c : Dev nD) (s : Fin 8) (f : Buf (Elt F) ((slotM s).view.loc (c : Thread nD τ))) : sProp 𝕄 :=
  (slotM s).view.loc (c : Thread nD τ) ↦[(slotM s).view.set]{fullShare} f
/-- Row block `d` of device `c`'s accumulator held at contents `f`. -/
def rowPts (c d : Dev nD) (f : Buf (Elt F) ((rowM d).view.loc (c : Thread nD τ))) : sProp 𝕄 :=
  (rowM d).view.loc (c : Thread nD τ) ↦[(rowM d).view.set]{fullShare} f

/-- Slot `j + 1` of device `c` held at anything, -/
def slotFree (c : Dev nD) (j : Fin 7) : sProp 𝕄 := iprop(∃ f, slotPts c j.succ f)
/-- and holding the row block it was sent. -/
def slotFull (c : Dev nD) (j : Fin 7) : sProp 𝕄 :=
  iprop(∃ f, slotPts c j.succ ((slotM j.succ).view.write (Elt F) f (rowV A c (peer c j)) Finset.univ))

omit [FloatOps F] in
instance slotPts_storable (c : Dev nD) (s f) : BI.Storable (upEmb : UEmb _ 𝕄) (slotPts (F := F) c s f) := by unfold slotPts; infer_instance
omit [FloatOps F] in
instance rowPts_storable (c d : Dev nD) (f) : BI.Storable (upEmb : UEmb _ 𝕄) (rowPts (F := F) c d f) := by unfold rowPts; infer_instance
omit [FloatOps F] in
instance slotFree_storable (c : Dev nD) (j) : BI.Storable (upEmb : UEmb _ 𝕄) (slotFree (F := F) c j) := by unfold slotFree; infer_instance
omit [FloatOps F] in
instance slotFull_storable (c : Dev nD) (j) : BI.Storable (upEmb : UEmb _ 𝕄) (slotFull A c j) := by unfold slotFull; infer_instance

/-! ## The schedule -/

/-- What the signal numbered `j` on device `c`'s barrier hands `c`: the slot `c` will write on the device that sent it. -/
def barPay (c : Dev nD) (j : Fin 7) : sProp 𝕄 := slotFree (tgt c j) j
/-- What the end of a send hands back: the row block that was read. -/
def sendPay (c : Dev nD) (j : Fin 7) : sProp 𝕄 := rowPts c (tgt c j) (A c)

omit [FloatOps F] in
instance barPay_storable (c : Dev nD) (j) : BI.Storable (upEmb : UEmb _ 𝕄) (barPay (F := F) c j) := by unfold barPay; infer_instance
omit [FloatOps F] in
instance sendPay_storable (c : Dev nD) (j) : BI.Storable (upEmb : UEmb _ 𝕄) (sendPay A c j) := by unfold sendPay; infer_instance

/-- The duties of one kind of cell: seven of a barrier, one of a send or receive semaphore. -/
def dutiesOf : Option Kd → Finset (Fin 7)
  | some (.inl _) => Finset.univ
  | some (.inr _) => {0}
  | none => ∅
/-- What each payment adds. -/
def amountOf : Option Kd → ℕ
  | some (.inl _) => 1
  | _ => N
/-- What each payment hands over. -/
def payloadOf (c : Dev nD) (d : Fin 7) : Option Kd → sProp 𝕄
  | some (.inl _) => barPay c d
  | some (.inr (.inl j)) => sendPay A c j
  | some (.inr (.inr j)) => slotFull A c j
  | none => iprop(emp)

/-- The exchange, one round. -/
def Rd : Rounds.Schedule (GSem nD τ sig) (Fin 7) 𝕄 where
  duties g r := if r = 0 ∧ g.1.2 = .tc then dutiesOf (kindOf g.2) else ∅
  unitless _ := False
  amount g _ _ := amountOf (kindOf g.2)
  payload g _ d := payloadOf A g.1.1 d (kindOf g.2)
  amount_pos g _ _ _ := by
    unfold amountOf; split
    · exact Nat.one_pos
    · exact N_pos

instance Rd_payload_storable (g : GSem nD τ sig) (r : ℕ) (d : Fin 7) :
    BI.Storable (upEmb : UEmb _ 𝕄) ((Rd (F := F) A).payload g r d) := by
  show BI.Storable upEmb (payloadOf A g.1.1 d (kindOf g.2))
  unfold payloadOf; split <;> infer_instance

section Sched
variable (c : Dev nD) (j : Fin 7)

omit [FloatOps F] in
theorem duties_bar : (Rd A).duties (barCell c) 0 = Finset.univ := by
  dsimp only [Rd]; rw [if_pos ⟨rfl, rfl⟩, kind_bar]; rfl
omit [FloatOps F] in
theorem duties_send : (Rd A).duties (sendCell c j) 0 = {0} := by
  dsimp only [Rd]; rw [if_pos ⟨rfl, rfl⟩, kind_send]; rfl
omit [FloatOps F] in
theorem duties_recv : (Rd A).duties (recvCell c j) 0 = {0} := by
  dsimp only [Rd]; rw [if_pos ⟨rfl, rfl⟩, kind_recv]; rfl
omit [FloatOps F] in
theorem duties_later (g : GSem nD τ sig) : ∀ r, 1 ≤ r → (Rd A).duties g r = ∅ :=
  fun r hr => by dsimp only [Rd]; exact if_neg fun h => by omega

omit [FloatOps F] in
theorem amount_bar (d : Fin 7) : (Rd A).amount (barCell c) 0 d = 1 := by dsimp only [Rd]; rw [kind_bar]; rfl
omit [FloatOps F] in
theorem amount_send (d : Fin 7) : (Rd A).amount (sendCell c j) 0 d = N := by dsimp only [Rd]; rw [kind_send]; rfl
omit [FloatOps F] in
theorem amount_recv (d : Fin 7) : (Rd A).amount (recvCell c j) 0 d = N := by dsimp only [Rd]; rw [kind_recv]; rfl

omit [FloatOps F] in
theorem payload_bar (d : Fin 7) : (Rd A).payload (barCell c) 0 d = barPay c d := by dsimp only [Rd]; rw [kind_bar]; rfl
omit [FloatOps F] in
theorem payload_send (d : Fin 7) : (Rd A).payload (sendCell c j) 0 d = sendPay A c j := by dsimp only [Rd]; rw [kind_send]; rfl
omit [FloatOps F] in
theorem payload_recv (d : Fin 7) : (Rd A).payload (recvCell c j) 0 d = slotFull A c j := by dsimp only [Rd]; rw [kind_recv]; rfl

omit [FloatOps F] in
theorem expect_bar : (Rd A).expect (barCell c) 0 = 7 := by
  unfold Schedule.expect Schedule.amountOf
  rw [duties_bar, Finset.sum_congr rfl fun d _ => amount_bar A c d]; rfl
omit [FloatOps F] in
theorem expect_send : (Rd A).expect (sendCell c j) 0 = N := by
  unfold Schedule.expect Schedule.amountOf; rw [duties_send, Finset.sum_singleton, amount_send]
omit [FloatOps F] in
theorem expect_recv : (Rd A).expect (recvCell c j) 0 = N := by
  unfold Schedule.expect Schedule.amountOf; rw [duties_recv, Finset.sum_singleton, amount_recv]

omit [FloatOps F] in
/-- After the barrier a device holds every slot it is going to write. -/
theorem rest_bar : bigSep ((Rd A).duties (barCell c) 0 \ ∅) (fun d => (Rd A).payload (barCell c) 0 d)
    = bigSep Finset.univ fun d : Fin 7 => (barPay c d : sProp 𝕄) := by
  rw [Finset.sdiff_empty, duties_bar]; exact bigSep_congr fun d _ => payload_bar A c d
omit [FloatOps F] in
theorem rest_send : bigSep ((Rd A).duties (sendCell c j) 0 \ ∅) (fun d => (Rd A).payload (sendCell c j) 0 d) = sendPay A c j := by
  rw [Finset.sdiff_empty, duties_send, bigSep_singleton, payload_send]
omit [FloatOps F] in
theorem rest_recv : bigSep ((Rd A).duties (recvCell c j) 0 \ ∅) (fun d => (Rd A).payload (recvCell c j) 0 d) = slotFull A c j := by
  rw [Finset.sdiff_empty, duties_recv, bigSep_singleton, payload_recv]

end Sched

/-! ## What each device owes -/

/-- The receive credit device `c` still owes when the transfers into slots 1 … `n` are still to be started. -/
def owR (c : Dev nD) : ℕ → CellTallies nD τ sig Unit
  | 0 => 0
  | n + 1 => owR c n + tallyAt (recvCell (tgt c (Fin.ofNat 7 n)) (Fin.ofNat 7 n)) () N
/-- All of it, and the `n` barrier signals still to be sent. -/
def owB (c : Dev nD) : ℕ → CellTallies nD τ sig Unit
  | 0 => owR c 7
  | n + 1 => owB c n + tallyAt (barCell (peer c (Fin.ofNat 7 (6 - n)))) () 1
/-- What device `c` owes at launch. -/
def O₀ (c : Dev nD) : CellTallies nD τ sig Unit := owB c 7

def L (g : GSem nD τ sig) : Finset Unit := if g.1.2 = .tc then {()} else ∅
/-- Levels: barriers below receive semaphores, everything else at the bottom. -/
def lv (g : GSem nD τ sig) (_ : Unit) : ℕ := match kindOf g.2 with
  | some (.inl _) => 1
  | some (.inr (.inr _)) => 2
  | _ => 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := by unfold lv; rw [kind_bar]
theorem lv_recv (c : Dev nD) (j : Fin 7) : lv (recvCell c j) () = 2 := by unfold lv; rw [kind_recv]
theorem lv_other (c : Dev nD) (sm : SemLoc sig) (h : ∀ k, csem k ≠ sm) : lv ((c : Thread nD τ), sm) () = 0 := by
  unfold lv; rw [kindOf_none h]

/-- Receive credit is owed to receive cells only, -/
theorem owR_pos {c : Dev nD} {g : GSem nD τ sig} {u : Unit} : ∀ n, 0 < owR c n g u → ∃ d j, g = recvCell d j
  | 0, h => absurd h (Nat.lt_irrefl 0)
  | n + 1, h => by
    unfold owR at h
    rw [Pi.add_apply, Finsupp.add_apply, tallyAt_apply] at h
    by_cases hg : g = recvCell (tgt c (Fin.ofNat 7 n)) (Fin.ofNat 7 n) ∧ u = ()
    · exact ⟨_, _, hg.1⟩
    · rw [if_neg hg] at h; exact owR_pos n h
/-- and all that is ever owed is that and barrier signals. -/
theorem owB_pos {c : Dev nD} {g : GSem nD τ sig} {u : Unit} : ∀ n, 0 < owB c n g u → (∃ d j, g = recvCell d j) ∨ ∃ d, g = barCell d
  | 0, h => .inl (owR_pos 7 h)
  | n + 1, h => by
    unfold owB at h
    rw [Pi.add_apply, Finsupp.add_apply, tallyAt_apply] at h
    by_cases hg : g = barCell (peer c (Fin.ofNat 7 (6 - n))) ∧ u = ()
    · exact .inr ⟨_, hg.1⟩
    · rw [if_neg hg] at h; exact owB_pos n h

omit [FloatOps F] in
/-- A wait on a semaphore that is none of the exchange's may be made at any time: it is below all that is owed. -/
theorem mayWait_stage (c : Dev nD) (q : DmaSem sig) (hq : ∀ k, csem k ≠ SemLoc.dma q) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => ?_) (fun p hp => by rw [Finset.mem_singleton.mp hp]; exact (lv_other c _ hq).le) (fun g u hg => ?_)
    · rcases owB_pos 7 hg with ⟨d, j, rfl⟩ | ⟨d, rfl⟩ <;> exact Finset.mem_singleton_self _
    · rcases owB_pos 7 hg with ⟨d, j, rfl⟩ | ⟨d, rfl⟩
      · rw [lv_recv]; decide
      · rw [lv_bar]; decide
  · rw [MayWait_zero]; iintro -; iempintro

omit [FloatOps F] in
/-- At its barrier wait a device owes receive credit only, which is above its barrier. -/
theorem mayWait_bar (c : Dev nD) : (levAts L lv : sProp 𝕄) ⊢ MayWait (c : Thread nD τ) (.reg barS) () (owR c 7) := by
  refine MayOwe.of_cut (L := L) (lev := lv) 1 (fun p hp => by rw [Finset.mem_singleton.mp hp, L_tc]; exact Finset.mem_singleton_self _)
    (fun g u hg => ?_) (fun p hp => by rw [Finset.mem_singleton.mp hp]; exact (lv_bar c).le) (fun g u hg => ?_)
  · obtain ⟨d, j, rfl⟩ := owR_pos 7 hg; exact Finset.mem_singleton_self _
  · obtain ⟨d, j, rfl⟩ := owR_pos 7 hg; rw [lv_recv]; decide

end Cert.Exchange

end
-- ==== Proof.Steps.lean ====
/-
# One effect at a time

For each kind of effect the kernel's exchange is made of (a barrier signal, the barrier wait, the start of a transfer,
the wait for an arrival, the wait for a send's end) the rule that steps over it, stated with the device's share of the
protocol bundled: what goes in, what comes out.
-/
module

public import proofs.«01_k».proof.Proof.Protocol
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (A : Dev nD → (cc0_scratch0 : Ref sig .tc).ty.Contents (Elt F)) (K : Dev nD × Kd → ℕ)

/-! ## The shared records -/

/-- Every cell's invariant, and that every cell has reached its round. -/
def records : sProp 𝕄 :=
  iprop((bigSep Finset.univ fun ck : Dev nD × Kd => cellInv ER (Rd A) (K ck) (kcell ck))
    ∗ bigSep Finset.univ fun ck : Dev nD × Kd => reached ER (kcell ck) 0)

instance records_persistent : BI.Persistent (records A K) := by unfold records; infer_instance

omit [FloatOps F] in
theorem inv_at (ck : Dev nD × Kd) : records A K ⊢ (cellInv ER (Rd A) (K ck) (kcell ck) : sProp 𝕄) := by
  unfold records; exact (BI.Entails.trans BI.sep_and and_elimL).trans (bigSep_elim (Φ := fun ck => cellInv ER (Rd A) (K ck) (kcell ck)) (Finset.mem_univ ck))
omit [FloatOps F] in
theorem reached_at (ck : Dev nD × Kd) : records A K ⊢ (reached ER (kcell ck) 0 : sProp 𝕄) := by
  unfold records; exact (BI.Entails.trans BI.sep_and and_elimR).trans (bigSep_elim (Φ := fun ck => reached ER (kcell ck) 0) (Finset.mem_univ ck))

/-- What a device owes, whatever it has waited on. -/
def owesE (c : Dev nD) (O : CellTallies nD τ sig Unit) : sProp 𝕄 := iprop(∃ W, owes (c : Thread nD τ) O W)

/-- The weakest precondition of a program on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

section Steps

variable (c : Dev nD) {α : Type}

/-! ## Signals -/

/-- What device `c` gives with its signal numbered `j`: the right to send it, and its own slot. -/
def sigIn (j : Fin 7) : sProp 𝕄 := iprop(dutyTok ER (barCell (peer c j)) 0 j ∗ slotFree c j)

/-- A signal to `peer c j`, which will write slot `j + 1` of device `c`. -/
theorem step_signal (j : Fin 7) (n : Dev nD) (hn : n = peer c j) (O : CellTallies nD τ sig Unit) (v : ℤ) (hv : v = 1)
    {Q : α → sProp (MT nD τ sig Unit (Elt F) ℕ UU ℕ)} {k : PUnit → Prog (TpuEff nD τ sig (Elt F) Λ₀ .tc) α} :
    iprop(records A K ∗ owesE c (O + tallyAt (barCell (peer c j)) () 1) ∗ sigIn c j)
      ⊢ iprop((owesE c O -∗ WP c (k ⟨⟩) Q) -∗ WP c (.op (.semSignal (n, .tc) barS v) k) Q) := by
  subst hn; subst hv
  unfold owesE sigIn
  iintro ⟨#HR, ⟨%W, HO⟩, Ht, Hs⟩ Hk
  iapply (Rounds.wp_signal 𝒱₀ ER (Rd A) (c : Thread nD τ) none (dst := (peer c j : Thread nD τ)) (κ := K (peer c j, .inl ()))
      (d := j) (by rw [duties_bar]; exact Finset.mem_univ _) ((amount_bar A (peer c j) j).trans (by decide)) () O rfl) $$ [HO Ht Hs]
  · isplitr; · iapply (inv_at A K (peer c j, .inl ())); iexact HR
    isplitl [HO]; · iexact HO
    isplitl [Ht]; · iexact Ht
    isplitl [Hs]; · rw [payload_bar]; unfold barPay; rw [tgt_peer]; iexact Hs
    iapply (reached_at A K (peer c j, .inl ())); iexact HR
  iintro HO; iapply Hk; iexists W; iexact HO

/-! ## The barrier wait -/

/-- The wait for the seven signals: the slots device `c` is going to write come with them, and the barrier's counter is
    at zero again. -/
theorem step_barrier (v : ℤ) (hv : v = 7)
    {Q : α → sProp (MT nD τ sig Unit (Elt F) ℕ UU ℕ)} {k : PUnit → Prog (TpuEff nD τ sig (Elt F) Λ₀ .tc) α} :
    iprop(records A K ∗ levAts L lv ∗ owesE c (owR c 7) ∗ cred (tallyAt (barCell c) () 7) ∗ atPos ER (barCell c) 0 ∅ 0)
      ⊢ iprop(((owesE c (owR c 7) ∗ semVal (barCell c) 0 ∗ bigSep Finset.univ fun j : Fin 7 => slotFree (tgt c j) j) -∗ WP c (k ⟨⟩) Q)
          -∗ WP c (.op (.semWait barS v) k) Q) := by
  subst hv
  unfold owesE
  iintro ⟨#HR, #Hlev, ⟨%W, HO⟩, Hc, Hat⟩ Hk
  iapply (Rounds.wp_wait_rest_token 𝒱₀ ER (Rd A) (c : Thread nD τ) none (κ := K (c, .inl ()))
      (wpE_semWait_eq 𝒱₀ (c : Thread nD τ) none Set.univ) (Set.mem_univ _) () (O := owR c 7) (W := W) (R := 0) (m := 0) (T := ∅)
      (by rw [expect_bar])) $$ [Hc HO Hat]
  · isplitr; · iapply (inv_at A K (c, .inl ())); iexact HR
    isplitl [Hc]; · iexact Hc
    isplitl [HO]; · iexact HO
    isplitr; · iapply (mayWait_bar c); iexact Hlev
    iexact Hat
  iintro ⟨HO, Hat, -, Hpay⟩
  imod (Rounds.cell_close ER (Rd A) (Set.mem_univ (K (c, .inl ()))) (fun h => h) (R := 0 + 1) (duties_later A (barCell c))) $$ [Hat] with Hz
  · isplitr; · iapply (inv_at A K (c, .inl ())); iexact HR
    iexact Hat
  iapply Hk
  isplitl [HO]; · iexists _; iexact HO
  isplitl [Hz]; · iexact Hz
  ihave Hp := (Entails.of_eq (rest_bar A c)) $$ Hpay
  unfold barPay; iexact Hp

/-! ## Transfers -/

/-- What the start of the transfer into slot `j + 1` takes: the row block to be read, the slot to be written, the right
    to raise the two semaphores. -/
def sendIn (j : Fin 7) : sProp 𝕄 :=
  iprop(rowPts c (tgt c j) (A c) ∗ slotFree (tgt c j) j ∗ dutyTok ER (sendCell c j) 0 0 ∗ dutyTok ER (recvCell (tgt c j) j) 0 0)

/-- The start of the transfer of row block `tgt c j` into slot `j + 1` of that device. -/
theorem step_send (j : Fin 7) (n : Dev nD) (hn : n = tgt c j) (o : Fin 2 → Nat) (ho : o = ![32 * (tgt c j).val, 0])
    (hin : ∀ a, o a + S32x256.size a ≤ S256x256.size a) (O : CellTallies nD τ sig Unit)
    {hsc : (slotM j.succ : Memref sig (Dev.tc n : Thread nD τ).2.kind .vmem S32x256 .f32).view.ref.isScScratch = false}
    {hsrc : (accM.slice (Rect.unit (s := S256x256) o S32x256.size hin) (fun _ => rfl) : Memref sig .tc .vmem S32x256 .f32).view.WordExact}
    {hdst : (slotM j.succ).view.WordExact}
    {hsem : DmaTarget.Typed .vmem (.dma (recvS j.succ)) (.remote (Dev.tc n : Thread nD τ) (slotM j.succ) (.dma (sendS j.succ)) hsc)}
    {Q : α → sProp (MT nD τ sig Unit (Elt F) ℕ UU ℕ)} {k : PUnit → Prog (TpuEff nD τ sig (Elt F) Λ₀ .tc) α} :
    iprop(records A K ∗ owesE c (O + tallyAt (recvCell (tgt c j) j) () N) ∗ sendIn A c j)
      ⊢ iprop(((owesE c O ∗ cred (tallyAt (sendCell c j) () N)) -∗ WP c (k ⟨⟩) Q)
          -∗ WP c (.op (.enqueueDma (accM.slice (Rect.unit (s := S256x256) o S32x256.size hin) (fun _ => rfl))
              (.remote (Dev.tc n : Thread nD τ) (slotM j.succ) (.dma (sendS j.succ)) hsc) (.dma (recvS j.succ)) hsrc hdst hsem) k) Q) := by
  subst hn; subst ho
  unfold owesE sendIn slotFree
  iintro ⟨#HR, ⟨%W, HO⟩, Hrow, ⟨%f, Hslot⟩, HtS, HtR⟩ Hk
  unfold rowPts slotPts
  iapply (Rounds.wp_send_pointsTo 𝒱₀ ER (Rd A) (c : Thread nD τ) none (κ₁ := K (c, .inr (.inl j))) (κ₂ := K (tgt c j, .inr (.inr j)))
    (r₁ := 0) (r₂ := 0) (d₁ := 0) (d₂ := 0) (fs := A c) (fd := f)
    (by rw [duties_send]; exact Finset.mem_singleton_self _) (by rw [duties_recv]; exact Finset.mem_singleton_self _)
    () () N rfl (amount_send A c j 0) (amount_recv A (tgt c j) j 0) O rfl (W := W)
    (by rw [payload_send]; exact BI.Entails.refl _)
    (by
      rw [payload_recv]; unfold slotFull slotPts rowV; rw [peer_tgt]
      iintro H; iexists f; iexact H)) $$ [HO Hrow Hslot HtS HtR]
  · isplitr; · iapply (inv_at A K (c, .inr (.inl j))); iexact HR
    isplitr; · iapply (inv_at A K (tgt c j, .inr (.inr j))); iexact HR
    isplitl [Hrow]; · iexact Hrow
    isplitl [Hslot]; · iexact Hslot
    isplitl [HO]; · iexact HO
    isplitl [HtS]; · iexact HtS
    isplitr; · iapply (reached_at A K (c, .inr (.inl j))); iexact HR
    isplitl [HtR]; · iexact HtR
    iapply (reached_at A K (tgt c j, .inr (.inr j))); iexact HR
  iintro ⟨HcS, HO⟩; iapply Hk
  isplitl [HO]; · iexists W; iexact HO
  iexact HcS

/-! ## Waits -/

/-- What the wait for an arrival takes; -/
def recvIn (j : Fin 7) : sProp 𝕄 := iprop(cred (tallyAt (recvCell c j) () N) ∗ atPos ER (recvCell c j) 0 ∅ 0)
/-- what the wait for the end of a send takes. -/
def sendOut (j : Fin 7) : sProp 𝕄 := iprop(cred (tallyAt (sendCell c j) () N) ∗ atPos ER (sendCell c j) 0 ∅ 0)

/-- The wait for the arrival in slot `j + 1`: the slot, filled, and the receive semaphore at zero. -/
theorem step_recv (j : Fin 7) {src : Memref sig .tc .vmem S32x256 .f32}
    {hsrc : src.view.WordExact} {hdst : (slotM j.succ).view.WordExact}
    {Q : α → sProp (MT nD τ sig Unit (Elt F) ℕ UU ℕ)} {k : PUnit → Prog (TpuEff nD τ sig (Elt F) Λ₀ .tc) α} :
    iprop(records A K ∗ owesE c 0 ∗ recvIn c j)
      ⊢ iprop(((owesE c 0 ∗ slotFull A c j ∗ semVal (recvCell c j) 0) -∗ WP c (k ⟨⟩) Q)
          -∗ WP c (.op (.waitDma2 (recvS j.succ) src (slotM j.succ) hsrc hdst) k) Q) := by
  unfold owesE recvIn
  iintro ⟨#HR, ⟨%W, HO⟩, Hc, Hat⟩ Hk
  iapply (Rounds.wp_wait_rest_token 𝒱₀ ER (Rd A) (c : Thread nD τ) none (κ := K (c, .inr (.inr j)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iapply (inv_at A K (c, .inr (.inr j))); iexact HR
    isplitl [Hc]; · iexact Hc
    isplitl [HO]; · iexact HO
    isplitr; · rw [MayWait_zero]; iempintro
    iexact Hat
  iintro ⟨HO, Hat, -, Hpay⟩
  imod (Rounds.cell_close ER (Rd A) (Set.mem_univ (K (c, .inr (.inr j)))) (fun h => h) (R := 0 + 1) (duties_later A (recvCell c j))) $$ [Hat] with Hz
  · isplitr; · iapply (inv_at A K (c, .inr (.inr j))); iexact HR
    iexact Hat
  iapply Hk
  isplitl [HO]; · iexists _; iexact HO
  isplitl [Hpay]; · iapply (Entails.of_eq (rest_recv A c j)); iexact Hpay
  iexact Hz

/-- The wait for the end of the send into slot `j + 1`: the row block back, and the send semaphore at zero. -/
theorem step_sent (j : Fin 7) (o : Fin 2 → Nat) (hin : ∀ a, o a + S32x256.size a ≤ S256x256.size a) {src : Memref sig .tc .vmem S32x256 .f32}
    {hsrc : src.view.WordExact} {hdst : (accM.slice (Rect.unit (s := S256x256) o S32x256.size hin) (fun _ => rfl) : Memref sig .tc .vmem S32x256 .f32).view.WordExact}
    {Q : α → sProp (MT nD τ sig Unit (Elt F) ℕ UU ℕ)} {k : PUnit → Prog (TpuEff nD τ sig (Elt F) Λ₀ .tc) α} :
    iprop(records A K ∗ owesE c 0 ∗ sendOut c j)
      ⊢ iprop(((owesE c 0 ∗ rowPts c (tgt c j) (A c) ∗ semVal (sendCell c j) 0) -∗ WP c (k ⟨⟩) Q)
          -∗ WP c (.op (.waitDma2 (sendS j.succ) src (accM.slice (Rect.unit (s := S256x256) o S32x256.size hin) (fun _ => rfl)) hsrc hdst) k) Q) := by
  unfold owesE sendOut
  iintro ⟨#HR, ⟨%W, HO⟩, Hc, Hat⟩ Hk
  iapply (Rounds.wp_wait_rest_token 𝒱₀ ER (Rd A) (c : Thread nD τ) none (κ := K (c, .inr (.inl j)))
      (wpE_waitDma2_eq 𝒱₀ (c : Thread nD τ) none Set.univ) (Set.mem_univ _) () (O := 0) (W := W) (R := 0) (m := 0) (T := ∅)
      (by rw [Nat.zero_add, expect_send]; rfl)) $$ [Hc HO Hat]
  · isplitr; · iapply (inv_at A K (c, .inr (.inl j))); iexact HR
    isplitl [Hc]; · iexact Hc
    isplitl [HO]; · iexact HO
    isplitr; · rw [MayWait_zero]; iempintro
    iexact Hat
  iintro ⟨HO, Hat, -, Hpay⟩
  imod (Rounds.cell_close ER (Rd A) (Set.mem_univ (K (c, .inr (.inl j)))) (fun h => h) (R := 0 + 1) (duties_later A (sendCell c j))) $$ [Hat] with Hz
  · isplitr; · iapply (inv_at A K (c, .inr (.inl j))); iexact HR
    iexact Hat
  iapply Hk
  isplitl [HO]; · iexists _; iexact HO
  isplitl [Hpay]
  · ihave Hp := (Entails.of_eq (rest_send A c j)) $$ Hpay
    unfold sendPay; iexact Hp
  iexact Hz

/-! ## Loads -/

omit [FloatOps F] in
theorem slot_set (s : Fin 8) : (slotM s).view.set = commM.view.setOn (slotR s).toLoadRect.set := by
  rw [View.set_reshape]; exact View.set_slice _ _

omit [FloatOps F] in
theorem row_set (d : Dev nD) : (rowM d).view.set = accM.view.setOn (rowR d).toLoadRect.set := View.set_slice _ _

/-- A load of slot `j + 1` after its arrival reads, as a 32×256 block, the row block that was sent. -/
theorem step_load_slot (j : Fin 7) {hl : commM.view.LoadsAt (slotR j.succ).toLoadRect}
    {Q : α → sProp (MT nD τ sig Unit (Elt F) ℕ UU ℕ)} {k : Vec F S1x32x256 .f32 → Prog (TpuEff nD τ sig (Elt F) Λ₀ .tc) α} :
    slotFull A c j
      ⊢ iprop((∀ v : Vec F S1x32x256 .f32, ⌜shapeCast S32x256 v shapeCasts_S1x32x256_S32x256 = rowV A c (peer c j)⌝ -∗ slotFull A c j -∗ WP c (k v) Q)
          -∗ WP c (.op (.load commM (slotR j.succ).toLoadRect hl) k) Q) := by
  unfold slotFull slotPts
  iintro ⟨%f, H⟩ Hk
  iapply (wp_load 𝒱₀ (c : Thread nD τ) none Set.univ (m := commM) (r := (slotR j.succ).toLoadRect) (S := (slotM j.succ).view.set)
    (by rw [slot_set])) $$ H
  iintro H
  ispecialize Hk $$ %(commM.view.readAt (Elt F) (slotR j.succ).toLoadRect ((slotM j.succ).view.write (Elt F) f (rowV A c (peer c j)) Finset.univ))
  iapply Hk
  · ipureintro
    exact (Memref.read_squeeze_slice commM (slotR j.succ) (fun _ => rfl) squeezes_S1x32x256_S32x256 shapeCasts_S1x32x256_S32x256 _).symm.trans
      (View.read_write_univ _ _)
  · iexists f; iexact H

end Steps

end Cert.Exchange

end
-- ==== Proof.Split.lean ====
/-
# The two scratch buffers taken apart

The landing buffer is its eight slots; the accumulator is its eight row blocks, listed from a device's own block on.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (cc0_scratch0 : Ref sig .tc).ty.Contents (Elt F))

/-! ## Seven and eight conjuncts -/

theorem bigSep_fin7 {M : Type} [URA M] (Φ : Fin 7 → sProp M) :
    bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem bigSep_fin8 {M : Type} [URA M] (Φ : Fin 8 → sProp M) :
    bigSep Finset.univ Φ = iprop(Φ 0 ∗ bigSep Finset.univ fun j : Fin 7 => Φ j.succ) := by
  rw [bigSep_fin7, bigSep_univ_eq_bigSepL [0, 1, 2, 3, 4, 5, 6, 7] (by decide) (by decide)]; rfl

set_option backward.proofsInPublic true in
/-- The devices from `c` on, downwards: `c` itself, then `tgt c 0`, `tgt c 1`, … -/
def around (c : Dev nD) : Fin 8 ≃ Dev nD where
  toFun i := ⟨(c.val + (8 - i.val)) % 8, Nat.mod_lt _ (by decide)⟩
  invFun d := ⟨(c.val + (8 - d.val)) % 8, Nat.mod_lt _ (by decide)⟩
  left_inv i := by revert c i; decide
  right_inv d := by revert c d; decide

theorem around_zero (c : Dev nD) : around c 0 = c := by revert c; decide
theorem around_succ (c : Dev nD) (j : Fin 7) : around c j.succ = tgt c j := by revert c j; decide

/-! ## The landing buffer -/

theorem slot_disjoint (s s' : Fin 8) (h : s ≠ s') : Disjoint (slotR s).set (slotR s').set :=
  Ring.lead_disjoint (s := S8x32x256) 0 1 (fun s : Fin 8 => ![s.val, 0, 0]) S1x32x256.size slot_inb (fun s => (Nat.one_mul _).symm) rfl s s' h
theorem slot_cover : Finset.univ.biUnion (fun s : Fin 8 => (slotR s).set) = Finset.univ :=
  Ring.lead_cover (s := S8x32x256) 0 1 (fun s : Fin 8 => ![s.val, 0, 0]) S1x32x256.size slot_inb (fun s => (Nat.one_mul _).symm)
    (fun s a ha => by fin_cases a <;> first | exact absurd rfl ha | rfl) rfl (fun a ha => by fin_cases a <;> first | exact absurd rfl ha | rfl) rfl

omit [FloatOps F] in
theorem slotPts_eq (c : Dev nD) (s : Fin 8) (f : Buf (Elt F) ((c : Thread nD τ).loc cc0_scratch1)) :
    (slotPts c s f : sProp 𝕄) = ((c : Thread nD τ).loc cc0_scratch1 ↦[(slotR s).set]{fullShare} f) := by
  have h : (slotM s).view.set = (slotR s).set := by rw [View.set_reshape]; exact View.set_slice_whole _ _
  unfold slotPts; rw [h]

omit [FloatOps F] in
/-- The landing buffer at any contents is slot 0 and the seven slots of the exchange. -/
theorem comm_split (c : Dev nD) :
    iprop(∃ f : Buf (Elt F) ((c : Thread nD τ).loc cc0_scratch1), (c : Thread nD τ).loc cc0_scratch1 ↦{fullShare} f)
      ⊢ (iprop((∃ f, slotPts c 0 f) ∗ bigSep Finset.univ fun j : Fin 7 => slotFree c j) : sProp 𝕄) := by
  iintro ⟨%f, H⟩
  ihave H := (Entails.of_eq ((Ring.pointsTo_blocks (ℓ := (c : Thread nD τ).loc cc0_scratch1) (fun s : Fin 8 => (slotR s).set) slot_disjoint slot_cover f).trans (bigSep_fin8 _))) $$ H
  icases H with ⟨H0, H⟩
  isplitl [H0]; · iexists f; rw [slotPts_eq]; iexact H0
  have h : ∀ j : Fin 7, ((c : Thread nD τ).loc cc0_scratch1 ↦[(slotR j.succ).set]{fullShare} f : sProp 𝕄) ⊢ slotFree c j := fun j => by
    unfold slotFree; iintro H; iexists f; rw [slotPts_eq]; iexact H
  have h' : (bigSep Finset.univ fun j : Fin 7 => ((c : Thread nD τ).loc cc0_scratch1 ↦[(slotR j.succ).set]{fullShare} f : sProp 𝕄))
      ⊢ bigSep Finset.univ fun j : Fin 7 => slotFree c j := bigSep_mono fun j _ => h j
  iapply h'; iexact H

omit [FloatOps F] in
/-- And back. -/
theorem comm_join (c : Dev nD) :
    (iprop((∃ f, slotPts c 0 f) ∗ bigSep Finset.univ fun j : Fin 7 => slotFree c j) : sProp 𝕄)
      ⊢ iprop(∃ f : Buf (Elt F) ((c : Thread nD τ).loc cc0_scratch1), (c : Thread nD τ).loc cc0_scratch1 ↦{fullShare} f) := by
  have h : bigSep Finset.univ (fun s : Fin 8 => (iprop(∃ f, slotPts c s f) : sProp 𝕄))
      = bigSep Finset.univ fun s : Fin 8 => iprop(∃ f, (c : Thread nD τ).loc cc0_scratch1 ↦[(slotR s).set]{fullShare} f) :=
    bigSep_congr fun s _ => by simp only [slotPts_eq]
  iintro ⟨⟨%f, H0⟩, H⟩
  iapply (Ring.pointsTo_blocks_join_exists (ℓ := (c : Thread nD τ).loc cc0_scratch1) (fun s : Fin 8 => (slotR s).set) slot_disjoint slot_cover f)
  rw [← h, bigSep_fin8]
  isplitl [H0]; · iexists f; iexact H0
  unfold slotFree; iexact H

/-! ## The accumulator -/

omit [FloatOps F] in
theorem acc_pieces (c : Dev nD) (f : Buf (Elt F) ((c : Thread nD τ).loc cc0_scratch0)) :
    (((c : Thread nD τ).loc cc0_scratch0 ↦{fullShare} f : sProp 𝕄)) = bigSep Finset.univ fun d : Dev nD => (rowPts c d f : sProp 𝕄) := by
  refine (Ring.pointsTo_blocks (ℓ := (c : Thread nD τ).loc cc0_scratch0) (fun d : Dev nD => (rowR d).set)
    (Ring.lead_disjoint (s := S256x256) 0 32 (fun d : Dev nD => ![32 * d.val, 0]) S32x256.size row_inb (fun _ => rfl) rfl)
    (Ring.lead_cover (s := S256x256) 0 32 (fun d : Dev nD => ![32 * d.val, 0]) S32x256.size row_inb (fun _ => rfl)
      (fun s a ha => by fin_cases a <;> first | exact absurd rfl ha | rfl) rfl (fun a ha => by fin_cases a <;> first | exact absurd rfl ha | rfl) rfl) f).trans ?_
  refine bigSep_congr fun d _ => ?_
  have h : (rowM d).view.set = (rowR d).set := View.set_slice_whole _ _
  unfold rowPts; rw [h]

omit [FloatOps F] in
/-- The accumulator is the device's own row block and the seven it sends. -/
theorem acc_split (c : Dev nD) (f : Buf (Elt F) ((c : Thread nD τ).loc cc0_scratch0)) :
    (((c : Thread nD τ).loc cc0_scratch0 ↦{fullShare} f : sProp 𝕄))
      = iprop(rowPts c c f ∗ bigSep Finset.univ fun j : Fin 7 => rowPts c (tgt c j) f) := by
  rw [acc_pieces, bigSep_univ_equiv (around c), bigSep_fin8, around_zero]
  have h : (bigSep Finset.univ fun j : Fin 7 => (rowPts c (around c j.succ) f : sProp 𝕄)) = bigSep Finset.univ fun j : Fin 7 => rowPts c (tgt c j) f :=
    bigSep_congr fun j _ => by rw [around_succ]
  rw [h]

end Cert.Exchange

end
-- ==== Proof.Body.lean ====
/-
# The kernel's body on one device

Each printed part of the body is stepped through by the rules of `Steps`, from what it takes to what it leaves; the whole
body is the parts in order.
-/
module

public import proofs.«01_k».proof.Proof.Split

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Addresses -/

theorem sig_dev1 (c : Dev nD) : (⟨k0_dev1 c, k0_dev1_lt c⟩ : Dev nD) = peer c 0 := Fin.ext (k0_dev1_eq c)
theorem sig_dev2 (c : Dev nD) : (⟨k0_dev2 c, k0_dev2_lt c⟩ : Dev nD) = peer c 1 := Fin.ext (k0_dev2_eq c)
theorem sig_dev3 (c : Dev nD) : (⟨k0_dev3 c, k0_dev3_lt c⟩ : Dev nD) = peer c 2 := Fin.ext (k0_dev3_eq c)
theorem sig_dev4 (c : Dev nD) : (⟨k0_dev4 c, k0_dev4_lt c⟩ : Dev nD) = peer c 3 := Fin.ext (k0_dev4_eq c)
theorem sig_dev5 (c : Dev nD) : (⟨k0_dev5 c, k0_dev5_lt c⟩ : Dev nD) = peer c 4 := Fin.ext (k0_dev5_eq c)
theorem sig_dev6 (c : Dev nD) : (⟨k0_dev6 c, k0_dev6_lt c⟩ : Dev nD) = peer c 5 := Fin.ext (k0_dev6_eq c)
theorem sig_dev7 (c : Dev nD) : (⟨k0_dev7 c, k0_dev7_lt c⟩ : Dev nD) = peer c 6 := Fin.ext (k0_dev7_eq c)
theorem snd_dev1 (c : Dev nD) : (⟨k0_dev8 c, k0_dev8_lt c⟩ : Dev nD) = tgt c 6 := Fin.ext (k0_dev8_eq c)
theorem snd_off1 (c : Dev nD) : k0_off1 c 1#32 = ![32 * (tgt c 6).val, 0] := k0_off1_eq c 0
theorem snd_dev2 (c : Dev nD) : (⟨k0_dev9 c, k0_dev9_lt c⟩ : Dev nD) = tgt c 5 := Fin.ext (k0_dev9_eq c)
theorem snd_off2 (c : Dev nD) : k0_off1 c 2#32 = ![32 * (tgt c 5).val, 0] := k0_off1_eq c 1
theorem snd_dev3 (c : Dev nD) : (⟨k0_dev10 c, k0_dev10_lt c⟩ : Dev nD) = tgt c 4 := Fin.ext (k0_dev10_eq c)
theorem snd_off3 (c : Dev nD) : k0_off1 c 3#32 = ![32 * (tgt c 4).val, 0] := k0_off1_eq c 2
theorem snd_dev4 (c : Dev nD) : (⟨k0_dev11 c, k0_dev11_lt c⟩ : Dev nD) = tgt c 3 := Fin.ext (k0_dev11_eq c)
theorem snd_off4 (c : Dev nD) : k0_off1 c 4#32 = ![32 * (tgt c 3).val, 0] := k0_off1_eq c 3
theorem snd_dev5 (c : Dev nD) : (⟨k0_dev12 c, k0_dev12_lt c⟩ : Dev nD) = tgt c 2 := Fin.ext (k0_dev12_eq c)
theorem snd_off5 (c : Dev nD) : k0_off1 c 5#32 = ![32 * (tgt c 2).val, 0] := k0_off1_eq c 4
theorem snd_dev6 (c : Dev nD) : (⟨k0_dev13 c, k0_dev13_lt c⟩ : Dev nD) = tgt c 1 := Fin.ext (k0_dev13_eq c)
theorem snd_off6 (c : Dev nD) : k0_off1 c 6#32 = ![32 * (tgt c 1).val, 0] := k0_off1_eq c 5
theorem snd_dev7 (c : Dev nD) : (⟨k0_dev14 c, k0_dev14_lt c⟩ : Dev nD) = tgt c 0 := Fin.ext (k0_dev14_eq c)
theorem snd_off7 (c : Dev nD) : k0_off1 c 7#32 = ![32 * (tgt c 0).val, 0] := k0_off1_eq c 6

/-! ## The memrefs the body is called with -/

abbrev xM : Memref sig .tc .vmem S256x128 .f32 := Memref.whole cc0_stg0_0
abbrev iM : Memref sig .tc .vmem S256x1 .i32 := Memref.whole cc0_stg1_0
abbrev wM : Memref sig .tc .vmem S2x128x256 .f32 := Memref.whole cc0_stg2_0
abbrev oM : Memref sig .tc .vmem S32x256 .f32 := Memref.whole cc0_stg3_0

/-- The index of device `c` among the eight, as the body computes it. -/
def idxW (c : Dev nD) : BitVec 32 := Scalar.remsi (Scalar.divsi (Dev.word c) 1#32) 8#32

variable (A : Dev nD → (cc0_scratch0 : Ref sig .tc).ty.Contents (Elt F)) (K : Dev nD × Kd → ℕ) (c : Dev nD)

/-! ## Steps with the remaining debt named -/

theorem signal' (j : Fin 7) (n : Dev nD) (hn : n = peer c j) (O O' : CellTallies nD τ sig Unit) (hO : O' = O + tallyAt (barCell (peer c j)) () 1)
    (v : ℤ) (hv : v = 1) {α : Type}
    {Q : α → sProp (MT nD τ sig Unit (Elt F) ℕ UU ℕ)} {k : PUnit → Prog (TpuEff nD τ sig (Elt F) Λ₀ .tc) α} :
    iprop(records A K ∗ owesE c O' ∗ sigIn c j)
      ⊢ iprop((owesE c O -∗ WP c (k ⟨⟩) Q) -∗ WP c (.op (.semSignal (n, .tc) barS v) k) Q) := by
  subst hO; exact step_signal A K c j n hn O v hv

/-! ## The parts -/

theorem hz2 : (![0, 0] : Fin 2 → Nat) = fun _ => 0 := funext fun a => by fin_cases a <;> rfl

omit [FloatOps F] in
theorem read_x (x : (cc0_stg0_0 : Ref sig .tc).ty.Contents (Elt F)) :
    xM.view.readAt (Elt F) (Rect.unit (s := S256x128) ![0, 0] S256x128.size inb_S256x128_S256x128_0_0).toLoadRect x = x :=
  Memref.readAt_unit_zero (Elt F) cc0_stg0_0 hz2 _ _
omit [FloatOps F] in
theorem read_i (x : (cc0_stg1_0 : Ref sig .tc).ty.Contents (Elt F)) :
    iM.view.readAt (Elt F) (Rect.unit (s := S256x1) ![0, 0] S256x1.size inb_S256x1_S256x1_0_0).toLoadRect x = x :=
  Memref.readAt_unit_zero (Elt F) cc0_stg1_0 hz2 _ _
omit [FloatOps F] in
theorem write_acc (f v : (cc0_scratch0 : Ref sig .tc).ty.Contents (Elt F)) :
    (accM.access (Rect.unit (s := S256x256) ![0, 0] S256x256.size inb_S256x256_S256x256_0_0) : View sig .tc _ _ _).write (Elt F) f v Finset.univ = v :=
  Memref.write_access_unit_zero_univ (Elt F) cc0_scratch0 hz2 _ f v
omit [FloatOps F] in
theorem write_out (f v : (cc0_stg3_0 : Ref sig .tc).ty.Contents (Elt F)) :
    (oM.access (Rect.unit (s := S32x256) ![0, 0] S32x256.size inb_S32x256_S32x256_0_0) : View sig .tc _ _ _).write (Elt F) f v Finset.univ = v :=
  Memref.write_access_unit_zero_univ (Elt F) cc0_stg3_0 hz2 _ f v

/-- The two expert matrices of a device, as loaded. -/
def w0 (w : (cc0_stg2_0 : Ref sig .tc).ty.Contents (Elt F)) : Vec F S1x128x256 .f32 :=
  wM.view.readAt (Elt F) (Rect.unit (s := S2x128x256) ![0, 0, 0] S1x128x256.size inb_S2x128x256_S1x128x256_0_0_0).toLoadRect w
def w1 (w : (cc0_stg2_0 : Ref sig .tc).ty.Contents (Elt F)) : Vec F S1x128x256 .f32 :=
  wM.view.readAt (Elt F) (Rect.unit (s := S2x128x256) ![1, 0, 0] S1x128x256.size inb_S2x128x256_S1x128x256_1_0_0).toLoadRect w

/-- The accumulator a device computes from the tokens, the routes and its two expert matrices. -/
def accOf (x : (cc0_stg0_0 : Ref sig .tc).ty.Contents (Elt F)) (ix : (cc0_stg1_0 : Ref sig .tc).ty.Contents (Elt F))
    (w : (cc0_stg2_0 : Ref sig .tc).ty.Contents (Elt F)) : (cc0_scratch0 : Ref sig .tc).ty.Contents (Elt F) :=
  k0_pay6 (idxW c) (k0_pay1 ix) (k0_pay2 ix) k0_pay3 (k0_pay4 (idxW c) ix) (k0_pay5 x) (w0 w) x (w1 w)

/-- The own row block and the first `n` that arrive, added up in order. -/
def sumTo : ℕ → FVec F S32x256 .f32
  | 0 => rowV A c c
  | n + 1 => addf (sumTo n) (rowV A c (peer c (Fin.ofNat 7 n)))

theorem send' (j : Fin 7) (n : Dev nD) (hn : n = tgt c j) (o : Fin 2 → Nat) (ho : o = ![32 * (tgt c j).val, 0])
    (hin : ∀ a, o a + S32x256.size a ≤ S256x256.size a) (O O' : CellTallies nD τ sig Unit)
    (hO : O' = O + tallyAt (recvCell (tgt c j) j) () N) {α : Type}
    {hsc : (slotM j.succ : Memref sig (Dev.tc n : Thread nD τ).2.kind .vmem S32x256 .f32).view.ref.isScScratch = false}
    {hsrc : (accM.slice (Rect.unit (s := S256x256) o S32x256.size hin) (fun _ => rfl) : Memref sig .tc .vmem S32x256 .f32).view.WordExact}
    {hdst : (slotM j.succ).view.WordExact}
    {hsem : DmaTarget.Typed .vmem (.dma (recvS j.succ)) (.remote (Dev.tc n : Thread nD τ) (slotM j.succ) (.dma (sendS j.succ)) hsc)}
    {Q : α → sProp (MT nD τ sig Unit (Elt F) ℕ UU ℕ)} {k : PUnit → Prog (TpuEff nD τ sig (Elt F) Λ₀ .tc) α} :
    iprop(records A K ∗ owesE c O' ∗ sendIn A c j)
      ⊢ iprop(((owesE c O ∗ cred (tallyAt (sendCell c j) () N)) -∗ WP c (k ⟨⟩) Q)
          -∗ WP c (.op (.enqueueDma (accM.slice (Rect.unit (s := S256x256) o S32x256.size hin) (fun _ => rfl))
              (.remote (Dev.tc n : Thread nD τ) (slotM j.succ) (.dma (sendS j.succ)) hsc) (.dma (recvS j.succ)) hsrc hdst hsem) k) Q) := by
  subst hO; exact step_send A K c j n hn o ho hin O

/-- A load of a device's own row block. -/
theorem load_row (o : Fin 2 → Nat) (ho : o = ![32 * c.val, 0]) (hin : ∀ a, o a + S32x256.size a ≤ S256x256.size a) {α : Type}
    {hl : accM.view.LoadsAt (Rect.unit (s := S256x256) o S32x256.size hin).toLoadRect}
    {Q : α → sProp (MT nD τ sig Unit (Elt F) ℕ UU ℕ)} {k : Vec F S32x256 .f32 → Prog (TpuEff nD τ sig (Elt F) Λ₀ .tc) α} :
    rowPts c c (A c)
      ⊢ iprop((rowPts c c (A c) -∗ WP c (k (rowV A c c)) Q)
          -∗ WP c (.op (.load accM (Rect.unit (s := S256x256) o S32x256.size hin).toLoadRect hl) k) Q) := by
  subst ho
  unfold rowPts
  iintro H Hk
  iapply (wp_load 𝒱₀ (c : Thread nD τ) none Set.univ (m := accM) (r := (rowR c).toLoadRect) (S := (rowM c).view.set)
    (by rw [row_set])) $$ H
  iintro H
  iapply Hk; iexact H

/-- The first five signals. -/
theorem part1_wp {α : Type} {Q : α → sProp (MT nD τ sig Unit (Elt F) ℕ UU ℕ)}
    {kk : (Σ' (d0 : Dev nD) (v2 : BitVec 32) (v3 : Sems sig S_) (v24 : BitVec 32), BitVec 32) → Prog (TpuEff nD τ sig (Elt F) Λ₀ .tc) α} :
    iprop(records A K ∗ owesE c (owB c 7) ∗ sigIn c 0 ∗ sigIn c 1 ∗ sigIn c 2 ∗ sigIn c 3 ∗ sigIn c 4)
      ⊢ iprop((owesE c (owB c 2) -∗ WP c (kk ⟨c, idxW c, SemArray.scalar (sig.barrier 0 rfl), Scalar.addi (idxW c) 6#32, 8#32⟩) Q)
        -∗ WP c (k0_part1 xM (Memref.isWhole_whole _) iM (Memref.isWhole_whole _) wM (Memref.isWhole_whole _) oM (Memref.isWhole_whole _) accM (Memref.isWhole_whole _) commM (Memref.isWhole_whole _) cc0_scratch2 cc0_scratch3  >>= kk) Q) := by
  simp only [k0_part1_eq_skeleton]; unfold k0_part1_skel
  simp only [semSignalWord, semWaitWord, Prog.lift, Prog.bind_op, Prog.bind_ret, Prog.pure_eq_ret, wp_deviceId]
  iintro ⟨#HR, HO, S1, S2, S3, S4, S5⟩ Hk
  iapply (signal' A K c 0 _ (sig_dev1 c) (owB c 6) (owB c 7) rfl _ (by decide)) $$ [HO S1]
  · isplitr; · iexact HR
    isplitl [HO]; · iexact HO
    iexact S1
  iintro HO
  iapply (signal' A K c 1 _ (sig_dev2 c) (owB c 5) (owB c 6) rfl _ (by decide)) $$ [HO S2]
  · isplitr; · iexact HR
    isplitl [HO]; · iexact HO
    iexact S2
  iintro HO
  iapply (signal' A K c 2 _ (sig_dev3 c) (owB c 4) (owB c 5) rfl _ (by decide)) $$ [HO S3]
  · isplitr; · iexact HR
    isplitl [HO]; · iexact HO
    iexact S3
  iintro HO
  iapply (signal' A K c 3 _ (sig_dev4 c) (owB c 3) (owB c 4) rfl _ (by decide)) $$ [HO S4]
  · isplitr; · iexact HR
    isplitl [HO]; · iexact HO
    iexact S4
  iintro HO
  iapply (signal' A K c 4 _ (sig_dev5 c) (owB c 2) (owB c 3) rfl _ (by decide)) $$ [HO S5]
  · isplitr; · iexact HR
    isplitl [HO]; · iexact HO
    iexact S5
  iintro HO
  iapply Hk; iexact HO

/-- The last two signals, the wait for the seven, and the loads of the routes and the tokens. -/
theorem part2_wp (x : (cc0_stg0_0 : Ref sig .tc).ty.Contents (Elt F)) (ix : (cc0_stg1_0 : Ref sig .tc).ty.Contents (Elt F)) (v2 v24 c8 : BitVec 32) {α : Type} {Q : α → sProp (MT nD τ sig Unit (Elt F) ℕ UU ℕ)}
    {kk : (Σ' (v33 : IVec S256x1 32) (v51 : FVec F S256x1 .f32) (v52 : FVec F S256x256 .f32) (v59 : FVec F S256x1 .f32), FVec F S256x128 .f32) → Prog (TpuEff nD τ sig (Elt F) Λ₀ .tc) α} :
    iprop(records A K ∗ levAts L lv ∗ owesE c (owB c 2) ∗ sigIn c 5 ∗ sigIn c 6 ∗ cred (tallyAt (barCell c) () 7) ∗ atPos ER (barCell c) 0 ∅ 0 ∗ ((c : Thread nD τ).loc cc0_stg0_0 ↦{fullShare} x) ∗ ((c : Thread nD τ).loc cc0_stg1_0 ↦{fullShare} ix))
      ⊢ iprop(((owesE c (owR c 7) ∗ semVal (barCell c) 0 ∗ (bigSep Finset.univ fun j : Fin 7 => slotFree (tgt c j) j) ∗ ((c : Thread nD τ).loc cc0_stg0_0 ↦{fullShare} x) ∗ ((c : Thread nD τ).loc cc0_stg1_0 ↦{fullShare} ix)) -∗ WP c (kk ⟨k0_pay1 ix, k0_pay2 ix, k0_pay3, k0_pay4 v2 ix, k0_pay5 x⟩) Q)
        -∗ WP c (k0_part2 xM (Memref.isWhole_whole _) iM (Memref.isWhole_whole _) wM (Memref.isWhole_whole _) oM (Memref.isWhole_whole _) accM (Memref.isWhole_whole _) commM (Memref.isWhole_whole _) cc0_scratch2 cc0_scratch3 c v2 (SemArray.scalar (sig.barrier 0 rfl)) v24 c8 >>= kk) Q) := by
  simp only [k0_part2_eq_skeleton]; unfold k0_part2_skel
  simp only [semSignalWord, semWaitWord, Prog.lift, Prog.bind_op, Prog.bind_ret, Prog.pure_eq_ret, wp_deviceId]
  iintro ⟨#HR, #HL, HO, S6, S7, HcB, HaB, HX, HI⟩ Hk
  iapply (signal' A K c 5 _ (sig_dev6 c) (owB c 1) (owB c 2) rfl _ (by decide)) $$ [HO S6]
  · isplitr; · iexact HR
    isplitl [HO]; · iexact HO
    iexact S6
  iintro HO
  iapply (signal' A K c 6 _ (sig_dev7 c) (owB c 0) (owB c 1) rfl _ (by decide)) $$ [HO S7]
  · isplitr; · iexact HR
    isplitl [HO]; · iexact HO
    iexact S7
  iintro HO
  iapply (step_barrier A K c _ (by decide)) $$ [HO HcB HaB]
  · isplitr; · iexact HR
    isplitr; · iexact HL
    isplitl [HO]; · iexact HO
    isplitl [HcB]; · iexact HcB
    iexact HaB
  iintro ⟨HO, HzB, Hslots⟩
  iapply (wp_load 𝒱₀ (c : Thread nD τ) none Set.univ (m := iM) (Finset.subset_univ _)) $$ HI; iintro HI
  rw [read_i]
  iapply (wp_load 𝒱₀ (c : Thread nD τ) none Set.univ (m := xM) (Finset.subset_univ _)) $$ HX; iintro HX
  rw [read_x]
  iapply Hk
  isplitl [HO]; · iexact HO
  isplitl [HzB]; · iexact HzB
  isplitl [Hslots]; · iexact Hslots
  isplitl [HX]; · iexact HX
  iexact HI

/-- The expert matrices are loaded and the accumulator is stored. -/
theorem part3_wp (x : (cc0_stg0_0 : Ref sig .tc).ty.Contents (Elt F)) (w : (cc0_stg2_0 : Ref sig .tc).ty.Contents (Elt F)) (v2 : BitVec 32) (v33 : IVec S256x1 32) (v51 : FVec F S256x1 .f32) (v52 : FVec F S256x256 .f32) (v59 : FVec F S256x1 .f32) (v61 : FVec F S256x128 .f32) {α : Type} {Q : α → sProp (MT nD τ sig Unit (Elt F) ℕ UU ℕ)}
    {kk : PUnit → Prog (TpuEff nD τ sig (Elt F) Λ₀ .tc) α} :
    iprop(((c : Thread nD τ).loc cc0_stg0_0 ↦{fullShare} x) ∗ ((c : Thread nD τ).loc cc0_stg2_0 ↦{fullShare} w) ∗ (∃ f, ((c : Thread nD τ).loc cc0_scratch0 ↦{fullShare} f)))
      ⊢ iprop(((((c : Thread nD τ).loc cc0_stg0_0 ↦{fullShare} x) ∗ ((c : Thread nD τ).loc cc0_stg2_0 ↦{fullShare} w) ∗ ((c : Thread nD τ).loc cc0_scratch0 ↦{fullShare} (k0_pay6 v2 v33 v51 v52 v59 v61 (w0 w) x (w1 w)))) -∗ WP c (kk ⟨⟩) Q)
        -∗ WP c (k0_part3 xM (Memref.isWhole_whole _) iM (Memref.isWhole_whole _) wM (Memref.isWhole_whole _) oM (Memref.isWhole_whole _) accM (Memref.isWhole_whole _) commM (Memref.isWhole_whole _) cc0_scratch2 cc0_scratch3 v2 v33 v51 v52 v59 v61 >>= kk) Q) := by
  simp only [k0_part3_eq_skeleton]; unfold k0_part3_skel
  simp only [semSignalWord, semWaitWord, Prog.lift, Prog.bind_op, Prog.bind_ret, Prog.pure_eq_ret, wp_deviceId]
  iintro ⟨HX, HW, ⟨%f, HA⟩⟩ Hk
  iapply (wp_load 𝒱₀ (c : Thread nD τ) none Set.univ (m := wM) (Finset.subset_univ _)) $$ HW; iintro HW
  iapply (wp_load 𝒱₀ (c : Thread nD τ) none Set.univ (m := xM) (Finset.subset_univ _)) $$ HX; iintro HX
  rw [read_x]
  iapply (wp_load 𝒱₀ (c : Thread nD τ) none Set.univ (m := wM) (Finset.subset_univ _)) $$ HW; iintro HW
  iapply (wp_load 𝒱₀ (c : Thread nD τ) none Set.univ (m := accM) (Finset.subset_univ _)) $$ HA; iintro HA
  iapply (wp_store 𝒱₀ (c : Thread nD τ) none Set.univ (m := accM) (r := Rect.unit (s := S256x256) ![0, 0] S256x256.size inb_S256x256_S256x256_0_0) (Mk := Finset.univ) (Finset.subset_univ _)) $$ HA; iintro HA
  rw [write_acc]
  iapply Hk
  isplitl [HX]; · iexact HX
  isplitl [HW]; · iexact HW
  iexact HA

/-- The first three transfers. -/
theorem part4_wp {α : Type} {Q : α → sProp (MT nD τ sig Unit (Elt F) ℕ UU ℕ)}
    {kk : BitVec 32 → Prog (TpuEff nD τ sig (Elt F) Λ₀ .tc) α} :
    iprop(records A K ∗ owesE c (owR c 7) ∗ sendIn A c 6 ∗ sendIn A c 5 ∗ sendIn A c 4)
      ⊢ iprop(((owesE c (owR c 4) ∗ cred (tallyAt (sendCell c 6) () N) ∗ cred (tallyAt (sendCell c 5) () N) ∗ cred (tallyAt (sendCell c 4) () N)) -∗ WP c (kk (Scalar.remsi (Scalar.addi (idxW c) 4#32) 8#32)) Q)
        -∗ WP c (k0_part4 xM (Memref.isWhole_whole _) iM (Memref.isWhole_whole _) wM (Memref.isWhole_whole _) oM (Memref.isWhole_whole _) accM (Memref.isWhole_whole _) commM (Memref.isWhole_whole _) cc0_scratch2 cc0_scratch3 c (idxW c) >>= kk) Q) := by
  simp only [k0_part4_eq_skeleton]; unfold k0_part4_skel
  simp only [semSignalWord, semWaitWord, Prog.lift, Prog.bind_op, Prog.bind_ret, Prog.pure_eq_ret, wp_deviceId]
  iintro ⟨#HR, HO, S6, S5, S4⟩ Hk
  iapply (send' A K c 6 _ (snd_dev1 c) _ (snd_off1 c) _ (owR c 6) (owR c 7) rfl) $$ [HO S6]
  · isplitr; · iexact HR
    isplitl [HO]; · iexact HO
    iexact S6
  iintro ⟨HO, C6⟩
  iapply (send' A K c 5 _ (snd_dev2 c) _ (snd_off2 c) _ (owR c 5) (owR c 6) rfl) $$ [HO S5]
  · isplitr; · iexact HR
    isplitl [HO]; · iexact HO
    iexact S5
  iintro ⟨HO, C5⟩
  iapply (send' A K c 4 _ (snd_dev3 c) _ (snd_off3 c) _ (owR c 4) (owR c 5) rfl) $$ [HO S4]
  · isplitr; · iexact HR
    isplitl [HO]; · iexact HO
    iexact S4
  iintro ⟨HO, C4⟩
  iapply Hk
  isplitl [HO]; · iexact HO
  isplitl [C6]; · iexact C6
  isplitl [C5]; · iexact C5
  iexact C4

/-- Two more transfers. -/
theorem part5_wp (v2 v123 : BitVec 32) {α : Type} {Q : α → sProp (MT nD τ sig Unit (Elt F) ℕ UU ℕ)}
    {kk : PUnit → Prog (TpuEff nD τ sig (Elt F) Λ₀ .tc) α} :
    iprop(records A K ∗ owesE c (owR c 4) ∗ sendIn A c 3 ∗ sendIn A c 2)
      ⊢ iprop(((owesE c (owR c 2) ∗ cred (tallyAt (sendCell c 3) () N) ∗ cred (tallyAt (sendCell c 2) () N)) -∗ WP c (kk ⟨⟩) Q)
        -∗ WP c (k0_part5 xM (Memref.isWhole_whole _) iM (Memref.isWhole_whole _) wM (Memref.isWhole_whole _) oM (Memref.isWhole_whole _) accM (Memref.isWhole_whole _) commM (Memref.isWhole_whole _) cc0_scratch2 cc0_scratch3 c v2 v123 >>= kk) Q) := by
  simp only [k0_part5_eq_skeleton]; unfold k0_part5_skel
  simp only [semSignalWord, semWaitWord, Prog.lift, Prog.bind_op, Prog.bind_ret, Prog.pure_eq_ret, wp_deviceId]
  iintro ⟨#HR, HO, S3, S2⟩ Hk
  iapply (send' A K c 3 _ (snd_dev4 c) _ (snd_off4 c) _ (owR c 3) (owR c 4) rfl) $$ [HO S3]
  · isplitr; · iexact HR
    isplitl [HO]; · iexact HO
    iexact S3
  iintro ⟨HO, C3⟩
  iapply (send' A K c 2 _ (snd_dev5 c) _ (snd_off5 c) _ (owR c 2) (owR c 3) rfl) $$ [HO S2]
  · isplitr; · iexact HR
    isplitl [HO]; · iexact HO
    iexact S2
  iintro ⟨HO, C2⟩
  iapply Hk
  isplitl [HO]; · iexact HO
  isplitl [C3]; · iexact C3
  iexact C2

/-- The last two transfers, the own row block, and the first arrival. -/
theorem part6_wp (v2 : BitVec 32) {α : Type} {Q : α → sProp (MT nD τ sig Unit (Elt F) ℕ UU ℕ)}
    {kk : FVec F S32x256 .f32 → Prog (TpuEff nD τ sig (Elt F) Λ₀ .tc) α} :
    iprop(records A K ∗ owesE c (owR c 2) ∗ sendIn A c 1 ∗ sendIn A c 0 ∗ rowPts c c (A c) ∗ recvIn c 0)
      ⊢ iprop(((owesE c 0 ∗ cred (tallyAt (sendCell c 1) () N) ∗ cred (tallyAt (sendCell c 0) () N) ∗ rowPts c c (A c) ∗ slotFull A c 0 ∗ semVal (recvCell c 0) 0) -∗ WP c (kk (sumTo A c 1)) Q)
        -∗ WP c (k0_part6 xM (Memref.isWhole_whole _) iM (Memref.isWhole_whole _) wM (Memref.isWhole_whole _) oM (Memref.isWhole_whole _) accM (Memref.isWhole_whole _) commM (Memref.isWhole_whole _) cc0_scratch2 cc0_scratch3 c v2 >>= kk) Q) := by
  simp only [k0_part6_eq_skeleton]; unfold k0_part6_skel
  simp only [semSignalWord, semWaitWord, Prog.lift, Prog.bind_op, Prog.bind_ret, Prog.pure_eq_ret, wp_deviceId]
  iintro ⟨#HR, HO, S1, S0, HP, R0⟩ Hk
  iapply (send' A K c 1 _ (snd_dev6 c) _ (snd_off6 c) _ (owR c 1) (owR c 2) rfl) $$ [HO S1]
  · isplitr; · iexact HR
    isplitl [HO]; · iexact HO
    iexact S1
  iintro ⟨HO, C1⟩
  iapply (send' A K c 0 _ (snd_dev7 c) _ (snd_off7 c) _ (owR c 0) (owR c 1) rfl) $$ [HO S0]
  · isplitr; · iexact HR
    isplitl [HO]; · iexact HO
    iexact S0
  iintro ⟨HO, C0⟩
  iapply (load_row A c _ (k0_off2_eq c) (k0_off2_inb c)) $$ HP; iintro HP
  iapply (step_recv A K c 0) $$ [HO R0]
  · isplitr; · iexact HR
    isplitl [HO]; · iexact HO
    iexact R0
  iintro ⟨HO, F0, Z0⟩
  iapply (step_load_slot A c 0) $$ F0
  iintro %v0 %hv0 F0
  have e : k0_pay7 (rowV A c c) v0 = sumTo A c 1 := by
    unfold k0_pay7; dsimp only; rw [hv0]; rfl
  rw [e]
  iapply Hk
  isplitl [HO]; · iexact HO
  isplitl [C1]; · iexact C1
  isplitl [C0]; · iexact C0
  isplitl [HP]; · iexact HP
  isplitl [F0]; · iexact F0
  iexact Z0

/-- The second and third arrivals. -/
theorem part7_wp (v2' : BitVec 32) {α : Type} {Q : α → sProp (MT nD τ sig Unit (Elt F) ℕ UU ℕ)}
    {kk : FVec F S32x256 .f32 → Prog (TpuEff nD τ sig (Elt F) Λ₀ .tc) α} :
    iprop(records A K ∗ owesE c 0 ∗ recvIn c 1 ∗ recvIn c 2)
      ⊢ iprop(((owesE c 0 ∗ slotFull A c 1 ∗ semVal (recvCell c 1) 0 ∗ slotFull A c 2 ∗ semVal (recvCell c 2) 0) -∗ WP c (kk (sumTo A c 3)) Q)
        -∗ WP c (k0_part7 xM (Memref.isWhole_whole _) iM (Memref.isWhole_whole _) wM (Memref.isWhole_whole _) oM (Memref.isWhole_whole _) accM (Memref.isWhole_whole _) commM (Memref.isWhole_whole _) cc0_scratch2 cc0_scratch3 v2' (sumTo A c 1) >>= kk) Q) := by
  simp only [k0_part7_eq_skeleton]; unfold k0_part7_skel
  simp only [semSignalWord, semWaitWord, Prog.lift, Prog.bind_op, Prog.bind_ret, Prog.pure_eq_ret, wp_deviceId]
  iintro ⟨#HR, HO, R1, R2⟩ Hk
  iapply (step_recv A K c 1) $$ [HO R1]
  · isplitr; · iexact HR
    isplitl [HO]; · iexact HO
    iexact R1
  iintro ⟨HO, F1, Z1⟩
  iapply (step_load_slot A c 1) $$ F1
  iintro %v1 %hv1 F1
  iapply (step_recv A K c 2) $$ [HO R2]
  · isplitr; · iexact HR
    isplitl [HO]; · iexact HO
    iexact R2
  iintro ⟨HO, F2, Z2⟩
  iapply (step_load_slot A c 2) $$ F2
  iintro %v2 %hv2 F2
  have e : k0_pay8 (sumTo A c 1) v1 v2 = sumTo A c 3 := by
    unfold k0_pay8; dsimp only; rw [hv1, hv2]; rfl
  rw [e]
  iapply Hk
  isplitl [HO]; · iexact HO
  isplitl [F1]; · iexact F1
  isplitl [Z1]; · iexact Z1
  isplitl [F2]; · iexact F2
  iexact Z2

/-- The fourth, fifth and sixth arrivals. -/
theorem part8_wp (v2' : BitVec 32) {α : Type} {Q : α → sProp (MT nD τ sig Unit (Elt F) ℕ UU ℕ)}
    {kk : (Σ' (v227 : FVec F S32x256 .f32), Vec F S1x32x256 .f32) → Prog (TpuEff nD τ sig (Elt F) Λ₀ .tc) α} :
    iprop(records A K ∗ owesE c 0 ∗ recvIn c 3 ∗ recvIn c 4 ∗ recvIn c 5)
      ⊢ iprop((∀ v : Vec F S1x32x256 .f32, ⌜shapeCast S32x256 v shapeCasts_S1x32x256_S32x256 = rowV A c (peer c 5)⌝ -∗ (owesE c 0 ∗ slotFull A c 3 ∗ semVal (recvCell c 3) 0 ∗ slotFull A c 4 ∗ semVal (recvCell c 4) 0 ∗ slotFull A c 5 ∗ semVal (recvCell c 5) 0) -∗ WP c (kk ⟨sumTo A c 5, v⟩) Q)
        -∗ WP c (k0_part8 xM (Memref.isWhole_whole _) iM (Memref.isWhole_whole _) wM (Memref.isWhole_whole _) oM (Memref.isWhole_whole _) accM (Memref.isWhole_whole _) commM (Memref.isWhole_whole _) cc0_scratch2 cc0_scratch3 v2' (sumTo A c 3) >>= kk) Q) := by
  simp only [k0_part8_eq_skeleton]; unfold k0_part8_skel
  simp only [semSignalWord, semWaitWord, Prog.lift, Prog.bind_op, Prog.bind_ret, Prog.pure_eq_ret, wp_deviceId]
  iintro ⟨#HR, HO, R3, R4, R5⟩ Hk
  iapply (step_recv A K c 3) $$ [HO R3]
  · isplitr; · iexact HR
    isplitl [HO]; · iexact HO
    iexact R3
  iintro ⟨HO, F3, Z3⟩
  iapply (step_load_slot A c 3) $$ F3
  iintro %v3 %hv3 F3
  iapply (step_recv A K c 4) $$ [HO R4]
  · isplitr; · iexact HR
    isplitl [HO]; · iexact HO
    iexact R4
  iintro ⟨HO, F4, Z4⟩
  iapply (step_load_slot A c 4) $$ F4
  iintro %v4 %hv4 F4
  iapply (step_recv A K c 5) $$ [HO R5]
  · isplitr; · iexact HR
    isplitl [HO]; · iexact HO
    iexact R5
  iintro ⟨HO, F5, Z5⟩
  iapply (step_load_slot A c 5) $$ F5
  iintro %v5 %hv5 F5
  have e : k0_pay9 (sumTo A c 3) v3 v4 = sumTo A c 5 := by
    unfold k0_pay9; dsimp only; rw [hv3, hv4]; rfl
  rw [e]
  ispecialize Hk $$ %v5
  iapply Hk
  · ipureintro; exact hv5
  isplitl [HO]; · iexact HO
  isplitl [F3]; · iexact F3
  isplitl [Z3]; · iexact Z3
  isplitl [F4]; · iexact F4
  isplitl [Z4]; · iexact Z4
  isplitl [F5]; · iexact F5
  iexact Z5

/-- The last arrival, the store of the result, and the ends of two sends. -/
theorem part9_wp (v2' : BitVec 32) (v : Vec F S1x32x256 .f32) (hv : shapeCast S32x256 v shapeCasts_S1x32x256_S32x256 = rowV A c (peer c 5)) {α : Type} {Q : α → sProp (MT nD τ sig Unit (Elt F) ℕ UU ℕ)}
    {kk : PUnit → Prog (TpuEff nD τ sig (Elt F) Λ₀ .tc) α} :
    iprop(records A K ∗ owesE c 0 ∗ recvIn c 6 ∗ (∃ f, ((c : Thread nD τ).loc cc0_stg3_0 ↦{fullShare} f)) ∗ sendOut c 6 ∗ sendOut c 5)
      ⊢ iprop(((owesE c 0 ∗ slotFull A c 6 ∗ semVal (recvCell c 6) 0 ∗ ((c : Thread nD τ).loc cc0_stg3_0 ↦{fullShare} (sumTo A c 7)) ∗ rowPts c (tgt c 6) (A c) ∗ semVal (sendCell c 6) 0 ∗ rowPts c (tgt c 5) (A c) ∗ semVal (sendCell c 5) 0) -∗ WP c (kk ⟨⟩) Q)
        -∗ WP c (k0_part9 xM (Memref.isWhole_whole _) iM (Memref.isWhole_whole _) wM (Memref.isWhole_whole _) oM (Memref.isWhole_whole _) accM (Memref.isWhole_whole _) commM (Memref.isWhole_whole _) cc0_scratch2 cc0_scratch3 c v2' (sumTo A c 5) v >>= kk) Q) := by
  simp only [k0_part9_eq_skeleton]; unfold k0_part9_skel
  simp only [semSignalWord, semWaitWord, Prog.lift, Prog.bind_op, Prog.bind_ret, Prog.pure_eq_ret, wp_deviceId]
  iintro ⟨#HR, HO, R6, ⟨%f, HF⟩, T6, T5⟩ Hk
  iapply (step_recv A K c 6) $$ [HO R6]
  · isplitr; · iexact HR
    isplitl [HO]; · iexact HO
    iexact R6
  iintro ⟨HO, F6, Z6⟩
  iapply (step_load_slot A c 6) $$ F6
  iintro %v6 %hv6 F6
  iapply (wp_load 𝒱₀ (c : Thread nD τ) none Set.univ (m := oM) (Finset.subset_univ _)) $$ HF; iintro HF
  iapply (wp_store 𝒱₀ (c : Thread nD τ) none Set.univ (m := oM) (r := Rect.unit (s := S32x256) ![0, 0] S32x256.size inb_S32x256_S32x256_0_0) (Mk := Finset.univ) (Finset.subset_univ _)) $$ HF; iintro HF
  rw [write_out]
  have e : k0_pay10 (sumTo A c 5) v v6 = sumTo A c 7 := by
    unfold k0_pay10; dsimp only; rw [hv, hv6]; rfl
  rw [e]
  iapply (step_sent A K c 6 _ (k0_off1_inb c 0)) $$ [HO T6]
  · isplitr; · iexact HR
    isplitl [HO]; · iexact HO
    iexact T6
  iintro ⟨HO, P6, Y6⟩
  iapply (step_sent A K c 5 _ (k0_off1_inb c 1)) $$ [HO T5]
  · isplitr; · iexact HR
    isplitl [HO]; · iexact HO
    iexact T5
  iintro ⟨HO, P5, Y5⟩
  iapply Hk
  isplitl [HO]; · iexact HO
  isplitl [F6]; · iexact F6
  isplitl [Z6]; · iexact Z6
  isplitl [HF]; · iexact HF
  isplitl [P6]; · iexact P6
  isplitl [Y6]; · iexact Y6
  isplitl [P5]; · iexact P5
  iexact Y5

/-- The ends of four more sends. -/
theorem part10_wp {α : Type} {Q : α → sProp (MT nD τ sig Unit (Elt F) ℕ UU ℕ)}
    {kk : PUnit → Prog (TpuEff nD τ sig (Elt F) Λ₀ .tc) α} :
    iprop(records A K ∗ owesE c 0 ∗ sendOut c 4 ∗ sendOut c 3 ∗ sendOut c 2 ∗ sendOut c 1)
      ⊢ iprop(((owesE c 0 ∗ rowPts c (tgt c 4) (A c) ∗ semVal (sendCell c 4) 0 ∗ rowPts c (tgt c 3) (A c) ∗ semVal (sendCell c 3) 0 ∗ rowPts c (tgt c 2) (A c) ∗ semVal (sendCell c 2) 0 ∗ rowPts c (tgt c 1) (A c) ∗ semVal (sendCell c 1) 0) -∗ WP c (kk ⟨⟩) Q)
        -∗ WP c (k0_part10 xM (Memref.isWhole_whole _) iM (Memref.isWhole_whole _) wM (Memref.isWhole_whole _) oM (Memref.isWhole_whole _) accM (Memref.isWhole_whole _) commM (Memref.isWhole_whole _) cc0_scratch2 cc0_scratch3 c >>= kk) Q) := by
  simp only [k0_part10_eq_skeleton]; unfold k0_part10_skel
  simp only [semSignalWord, semWaitWord, Prog.lift, Prog.bind_op, Prog.bind_ret, Prog.pure_eq_ret, wp_deviceId]
  iintro ⟨#HR, HO, T4, T3, T2, T1⟩ Hk
  iapply (step_sent A K c 4 _ (k0_off1_inb c 2)) $$ [HO T4]
  · isplitr; · iexact HR
    isplitl [HO]; · iexact HO
    iexact T4
  iintro ⟨HO, P4, Y4⟩
  iapply (step_sent A K c 3 _ (k0_off1_inb c 3)) $$ [HO T3]
  · isplitr; · iexact HR
    isplitl [HO]; · iexact HO
    iexact T3
  iintro ⟨HO, P3, Y3⟩
  iapply (step_sent A K c 2 _ (k0_off1_inb c 4)) $$ [HO T2]
  · isplitr; · iexact HR
    isplitl [HO]; · iexact HO
    iexact T2
  iintro ⟨HO, P2, Y2⟩
  iapply (step_sent A K c 1 _ (k0_off1_inb c 5)) $$ [HO T1]
  · isplitr; · iexact HR
    isplitl [HO]; · iexact HO
    iexact T1
  iintro ⟨HO, P1, Y1⟩
  iapply Hk
  isplitl [HO]; · iexact HO
  isplitl [P4]; · iexact P4
  isplitl [Y4]; · iexact Y4
  isplitl [P3]; · iexact P3
  isplitl [Y3]; · iexact Y3
  isplitl [P2]; · iexact P2
  isplitl [Y2]; · iexact Y2
  isplitl [P1]; · iexact P1
  iexact Y1

/-! ## The body -/

/-- What device `c` starts the body with, besides the debts and the staging buffers. -/
def ghost : sProp 𝕄 :=
  iprop(atPos ER (barCell c) 0 ∅ 0 ∗ cred (tallyAt (barCell c) () 7)
    ∗ (bigSep Finset.univ fun j : Fin 7 => dutyTok ER (barCell (peer c j)) 0 j)
    ∗ (bigSep Finset.univ fun j : Fin 7 => dutyTok ER (sendCell c j) 0 0)
    ∗ (bigSep Finset.univ fun j : Fin 7 => dutyTok ER (recvCell (tgt c j) j) 0 0)
    ∗ (bigSep Finset.univ fun j : Fin 7 => atPos ER (sendCell c j) 0 ∅ 0)
    ∗ (bigSep Finset.univ fun j : Fin 7 => atPos ER (recvCell c j) 0 ∅ 0)
    ∗ bigSep Finset.univ fun j : Fin 7 => cred (tallyAt (recvCell c j) () N))

/-- Both buffers of the body's own, at anything. -/
def bufs : sProp 𝕄 :=
  iprop((∃ f : Buf (Elt F) ((c : Thread nD τ).loc cc0_scratch0), (c : Thread nD τ).loc cc0_scratch0 ↦{fullShare} f)
    ∗ ∃ f : Buf (Elt F) ((c : Thread nD τ).loc cc0_scratch1), (c : Thread nD τ).loc cc0_scratch1 ↦{fullShare} f)

/-- The exchange's semaphores of device `c`, at zero. -/
def zeros : sProp 𝕄 :=
  iprop(semVal (barCell c) 0 ∗ (bigSep Finset.univ fun j : Fin 7 => semVal (sendCell c j) 0)
    ∗ bigSep Finset.univ fun j : Fin 7 => semVal (recvCell c j) 0)

omit [FloatOps F] in
theorem full_free (j : Fin 7) : slotFull A c j ⊢ slotFree c j := by
  unfold slotFull slotFree; iintro ⟨%f, H⟩; iexists _; iexact H

set_option maxHeartbeats 1000000 in
/-- The whole body: from the staged tokens, routes and expert matrices it leaves the sum of the eight row blocks in the
    result's staging buffer, its buffers whole, nothing owed and every semaphore of the exchange at zero. -/
theorem body_wp (x : (cc0_stg0_0 : Ref sig .tc).ty.Contents (Elt F)) (ix : (cc0_stg1_0 : Ref sig .tc).ty.Contents (Elt F)) (w : (cc0_stg2_0 : Ref sig .tc).ty.Contents (Elt F))
    (hA : A c = accOf c x ix w) {Q : PUnit → sProp (MT nD τ sig Unit (Elt F) ℕ UU ℕ)} :
    iprop(records A K ∗ levAts L lv ∗ owesE c (owB c 7) ∗ ghost c ∗ bufs c ∗ ((c : Thread nD τ).loc cc0_stg0_0 ↦{fullShare} x) ∗ ((c : Thread nD τ).loc cc0_stg1_0 ↦{fullShare} ix) ∗ ((c : Thread nD τ).loc cc0_stg2_0 ↦{fullShare} w) ∗ (∃ f, ((c : Thread nD τ).loc cc0_stg3_0 ↦{fullShare} f)))
      ⊢ iprop(((owesE c 0 ∗ bufs c ∗ zeros c ∗ ((c : Thread nD τ).loc cc0_stg0_0 ↦{fullShare} x) ∗ ((c : Thread nD τ).loc cc0_stg1_0 ↦{fullShare} ix) ∗ ((c : Thread nD τ).loc cc0_stg2_0 ↦{fullShare} w) ∗ ((c : Thread nD τ).loc cc0_stg3_0 ↦{fullShare} (sumTo A c 7))) -∗ Q ⟨⟩)
        -∗ WP c (cc0_body xM (Memref.isWhole_whole _) iM (Memref.isWhole_whole _) wM (Memref.isWhole_whole _) oM (Memref.isWhole_whole _) accM (Memref.isWhole_whole _) commM (Memref.isWhole_whole _) cc0_scratch2 cc0_scratch3) Q) := by
  simp only [cc0_body_eq_skeleton]; unfold cc0_body_skel
  unfold ghost bufs zeros
  simp only [bigSep_fin7]
  iintro ⟨#HR, #HL, HO, ⟨HaB, HcB, ⟨TB0, TB1, TB2, TB3, TB4, TB5, TB6⟩, ⟨TS0, TS1, TS2, TS3, TS4, TS5, TS6⟩, ⟨TR0, TR1, TR2, TR3, TR4, TR5, TR6⟩, ⟨AS0, AS1, AS2, AS3, AS4, AS5, AS6⟩, ⟨AR0, AR1, AR2, AR3, AR4, AR5, AR6⟩, ⟨CR0, CR1, CR2, CR3, CR4, CR5, CR6⟩⟩, ⟨HA, HC⟩, HX, HI, HW, HF⟩ Hk
  ihave HC := (comm_split c) $$ HC
  icases HC with ⟨HC0, HC⟩
  ihave HC := (Entails.of_eq (bigSep_fin7 _)) $$ HC
  icases HC with ⟨L0, L1, L2, L3, L4, L5, L6⟩
  iapply (part1_wp A K c) $$ [HO TB0 L0 TB1 L1 TB2 L2 TB3 L3 TB4 L4]
  · isplitr; · iexact HR
    isplitl [HO]; · iexact HO
    isplitl [TB0 L0]
    · unfold sigIn
      isplitl [TB0]; · iexact TB0
      iexact L0
    isplitl [TB1 L1]
    · unfold sigIn
      isplitl [TB1]; · iexact TB1
      iexact L1
    isplitl [TB2 L2]
    · unfold sigIn
      isplitl [TB2]; · iexact TB2
      iexact L2
    isplitl [TB3 L3]
    · unfold sigIn
      isplitl [TB3]; · iexact TB3
      iexact L3
    unfold sigIn
    isplitl [TB4]; · iexact TB4
    iexact L4
  iintro HO
  iapply (part2_wp A K c x ix _ _ _) $$ [HO TB5 L5 TB6 L6 HcB HaB HX HI]
  · isplitr; · iexact HR
    isplitr; · iexact HL
    isplitl [HO]; · iexact HO
    isplitl [TB5 L5]
    · unfold sigIn
      isplitl [TB5]; · iexact TB5
      iexact L5
    isplitl [TB6 L6]
    · unfold sigIn
      isplitl [TB6]; · iexact TB6
      iexact L6
    isplitl [HcB]; · iexact HcB
    isplitl [HaB]; · iexact HaB
    isplitl [HX]; · iexact HX
    iexact HI
  iintro ⟨HO, HzB, HD, HX, HI⟩
  ihave HD := (Entails.of_eq (bigSep_fin7 _)) $$ HD
  icases HD with ⟨D0, D1, D2, D3, D4, D5, D6⟩
  iapply (part3_wp c x w _ _ _ _ _ _) $$ [HX HW HA]
  · isplitl [HX]; · iexact HX
    isplitl [HW]; · iexact HW
    iexact HA
  iintro ⟨HX, HW, HA⟩
  have hA' : k0_pay6 (idxW c) (k0_pay1 ix) (k0_pay2 ix) k0_pay3 (k0_pay4 (idxW c) ix) (k0_pay5 x) (w0 w) x (w1 w) = A c := hA.symm
  have hs' : (((c : Thread nD τ).loc cc0_scratch0 ↦{fullShare} A c : sProp 𝕄))
      = iprop(rowPts c c (A c) ∗ (rowPts c (tgt c 0) (A c) ∗ rowPts c (tgt c 1) (A c) ∗ rowPts c (tgt c 2) (A c) ∗ rowPts c (tgt c 3) (A c)
        ∗ rowPts c (tgt c 4) (A c) ∗ rowPts c (tgt c 5) (A c) ∗ rowPts c (tgt c 6) (A c))) := by
    rw [acc_split, bigSep_fin7]
  ihave HA := (Entails.of_eq ((congrArg _ hA').trans hs')) $$ HA
  icases HA with ⟨HP, P0, P1, P2, P3, P4, P5, P6⟩
  iapply (part4_wp A K c) $$ [HO P6 D6 TS6 TR6 P5 D5 TS5 TR5 P4 D4 TS4 TR4]
  · isplitr; · iexact HR
    isplitl [HO]; · iexact HO
    isplitl [P6 D6 TS6 TR6]
    · unfold sendIn
      isplitl [P6]; · iexact P6
      isplitl [D6]; · iexact D6
      isplitl [TS6]; · iexact TS6
      iexact TR6
    isplitl [P5 D5 TS5 TR5]
    · unfold sendIn
      isplitl [P5]; · iexact P5
      isplitl [D5]; · iexact D5
      isplitl [TS5]; · iexact TS5
      iexact TR5
    unfold sendIn
    isplitl [P4]; · iexact P4
    isplitl [D4]; · iexact D4
    isplitl [TS4]; · iexact TS4
    iexact TR4
  iintro ⟨HO, C6, C5, C4⟩
  iapply (part5_wp A K c _ _) $$ [HO P3 D3 TS3 TR3 P2 D2 TS2 TR2]
  · isplitr; · iexact HR
    isplitl [HO]; · iexact HO
    isplitl [P3 D3 TS3 TR3]
    · unfold sendIn
      isplitl [P3]; · iexact P3
      isplitl [D3]; · iexact D3
      isplitl [TS3]; · iexact TS3
      iexact TR3
    unfold sendIn
    isplitl [P2]; · iexact P2
    isplitl [D2]; · iexact D2
    isplitl [TS2]; · iexact TS2
    iexact TR2
  iintro ⟨HO, C3, C2⟩
  iapply (part6_wp A K c _) $$ [HO P1 D1 TS1 TR1 P0 D0 TS0 TR0 HP CR0 AR0]
  · isplitr; · iexact HR
    isplitl [HO]; · iexact HO
    isplitl [P1 D1 TS1 TR1]
    · unfold sendIn
      isplitl [P1]; · iexact P1
      isplitl [D1]; · iexact D1
      isplitl [TS1]; · iexact TS1
      iexact TR1
    isplitl [P0 D0 TS0 TR0]
    · unfold sendIn
      isplitl [P0]; · iexact P0
      isplitl [D0]; · iexact D0
      isplitl [TS0]; · iexact TS0
      iexact TR0
    isplitl [HP]; · iexact HP
    unfold recvIn
    isplitl [CR0]; · iexact CR0
    iexact AR0
  iintro ⟨HO, C1, C0, HP, F0, ZR0⟩
  iapply (part7_wp A K c _) $$ [HO CR1 AR1 CR2 AR2]
  · isplitr; · iexact HR
    isplitl [HO]; · iexact HO
    isplitl [CR1 AR1]
    · unfold recvIn
      isplitl [CR1]; · iexact CR1
      iexact AR1
    unfold recvIn
    isplitl [CR2]; · iexact CR2
    iexact AR2
  iintro ⟨HO, F1, ZR1, F2, ZR2⟩
  iapply (part8_wp A K c _) $$ [HO CR3 AR3 CR4 AR4 CR5 AR5]
  · isplitr; · iexact HR
    isplitl [HO]; · iexact HO
    isplitl [CR3 AR3]
    · unfold recvIn
      isplitl [CR3]; · iexact CR3
      iexact AR3
    isplitl [CR4 AR4]
    · unfold recvIn
      isplitl [CR4]; · iexact CR4
      iexact AR4
    unfold recvIn
    isplitl [CR5]; · iexact CR5
    iexact AR5
  iintro %v5 %hv5 ⟨HO, F3, ZR3, F4, ZR4, F5, ZR5⟩
  iapply (part9_wp A K c _ v5 hv5) $$ [HO CR6 AR6 HF C6 AS6 C5 AS5]
  · isplitr; · iexact HR
    isplitl [HO]; · iexact HO
    isplitl [CR6 AR6]
    · unfold recvIn
      isplitl [CR6]; · iexact CR6
      iexact AR6
    isplitl [HF]; · iexact HF
    isplitl [C6 AS6]
    · unfold sendOut
      isplitl [C6]; · iexact C6
      iexact AS6
    unfold sendOut
    isplitl [C5]; · iexact C5
    iexact AS5
  iintro ⟨HO, F6, ZR6, HF, P6, ZS6, P5, ZS5⟩
  iapply (part10_wp A K c) $$ [HO C4 AS4 C3 AS3 C2 AS2 C1 AS1]
  · isplitr; · iexact HR
    isplitl [HO]; · iexact HO
    isplitl [C4 AS4]
    · unfold sendOut
      isplitl [C4]; · iexact C4
      iexact AS4
    isplitl [C3 AS3]
    · unfold sendOut
      isplitl [C3]; · iexact C3
      iexact AS3
    isplitl [C2 AS2]
    · unfold sendOut
      isplitl [C2]; · iexact C2
      iexact AS2
    unfold sendOut
    isplitl [C1]; · iexact C1
    iexact AS1
  iintro ⟨HO, P4, ZS4, P3, ZS3, P2, ZS2, P1, ZS1⟩
  simp only [Prog.lift, Prog.bind_op, Prog.bind_ret, Prog.pure_eq_ret]
  iapply (step_sent A K c 0 _ (k0_off1_inb c 6)) $$ [HO C0 AS0]
  · isplitr; · iexact HR
    isplitl [HO]; · iexact HO
    unfold sendOut
    isplitl [C0]; · iexact C0
    iexact AS0
  iintro ⟨HO, P0, ZS0⟩
  unfold WP; rw [wp_ret]; imodintro
  iapply Hk
  isplitl [HO]; · iexact HO
  isplitl [HP P0 P1 P2 P3 P4 P5 P6 HC0 F0 F1 F2 F3 F4 F5 F6]
  · isplitl [HP P0 P1 P2 P3 P4 P5 P6]
    · iexists (A c); iapply (Entails.of_eq hs'.symm)
      isplitl [HP]; · iexact HP
      isplitl [P0]; · iexact P0
      isplitl [P1]; · iexact P1
      isplitl [P2]; · iexact P2
      isplitl [P3]; · iexact P3
      isplitl [P4]; · iexact P4
      isplitl [P5]; · iexact P5
      iexact P6
    iapply (comm_join c)
    isplitl [HC0]; · iexact HC0
    iapply (Entails.of_eq (bigSep_fin7 _).symm)
    isplitl [F0]; · iapply (full_free A c 0); iexact F0
    isplitl [F1]; · iapply (full_free A c 1); iexact F1
    isplitl [F2]; · iapply (full_free A c 2); iexact F2
    isplitl [F3]; · iapply (full_free A c 3); iexact F3
    isplitl [F4]; · iapply (full_free A c 4); iexact F4
    isplitl [F5]; · iapply (full_free A c 5); iexact F5
    iapply (full_free A c 6); iexact F6
  isplitl [HzB ZS0 ZS1 ZS2 ZS3 ZS4 ZS5 ZS6 ZR0 ZR1 ZR2 ZR3 ZR4 ZR5 ZR6]
  · isplitl [HzB]; · iexact HzB
    isplitl [ZS0 ZS1 ZS2 ZS3 ZS4 ZS5 ZS6]
    · isplitl [ZS0]; · iexact ZS0
      isplitl [ZS1]; · iexact ZS1
      isplitl [ZS2]; · iexact ZS2
      isplitl [ZS3]; · iexact ZS3
      isplitl [ZS4]; · iexact ZS4
      isplitl [ZS5]; · iexact ZS5
      iexact ZS6
    isplitl [ZR0]; · iexact ZR0
    isplitl [ZR1]; · iexact ZR1
    isplitl [ZR2]; · iexact ZR2
    isplitl [ZR3]; · iexact ZR3
    isplitl [ZR4]; · iexact ZR4
    isplitl [ZR5]; · iexact ZR5
    iexact ZR6
  isplitl [HX]; · iexact HX
  isplitl [HI]; · iexact HI
  isplitl [HW]; · iexact HW
  iexact HF

end Cert.Exchange

end
-- ==== Proof.Deal.lean ====
/-
# What the launch deals each device

The launch mints, for every cell of the exchange, its round state and the tokens of its payments, and hands out every
semaphore at zero. Here these are dealt: each device gets the positions of its own cells and the tokens of the payments
it makes, all devices share the cells' invariants. The launch's credit for the cells is worked out too.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (A : Dev nD → (cc0_scratch0 : Ref sig .tc).ty.Contents (Elt F))

/-! ## Cells and tokens as sets -/

/-- The kernel's own semaphores that the exchange uses: seven send, seven receive. -/
abbrev osem : Fin 7 ⊕ Fin 7 → SemLoc sig := fun k => csem (.inr k)

theorem ownSemFacts : Pipeline.OwnSemFacts cfg0.spec osem := by decide +kernel

theorem kcell_injective : Function.Injective (kcell : Dev nD × Kd → GSem nD τ sig) := by
  rintro ⟨c, k⟩ ⟨c', k'⟩ h
  have h1 : c = c' := congrArg (fun g : GSem nD τ sig => g.1.1) h
  have h2 : k = k' := csem_injective (congrArg Prod.snd h)
  rw [h1, h2]

def xcells : Finset (GSem nD τ sig) := Finset.univ.map ⟨kcell, kcell_injective⟩

/-- The payments into device `c`'s cells: seven into its barrier, one into each of the others. -/
abbrev Tk : Type := Fin 7 ⊕ (Fin 7 ⊕ Fin 7)
def tokOf (ct : Dev nD × Tk) : GSem nD τ sig × ℕ × Fin 7 := match ct.2 with
  | .inl j => (barCell ct.1, 0, j)
  | .inr (.inl j) => (sendCell ct.1 j, 0, 0)
  | .inr (.inr j) => (recvCell ct.1 j, 0, 0)

/-- Which payment of which kind of semaphore a token is. -/
def tkKind : Tk → Kd × Fin 7
  | .inl j => (.inl (), j)
  | .inr k => (.inr k, 0)

theorem tkKind_injective : Function.Injective tkKind := by decide +kernel

theorem tokOf_eq (ct : Dev nD × Tk) : tokOf ct = (kcell (ct.1, (tkKind ct.2).1), 0, (tkKind ct.2).2) := by
  obtain ⟨c, j | j | j⟩ := ct <;> rfl

theorem tokOf_injective : Function.Injective tokOf := by
  rintro ⟨c, t⟩ ⟨c', t'⟩ h
  rw [tokOf_eq, tokOf_eq] at h
  have h1 := kcell_injective (congrArg Prod.fst h)
  have h2 : (tkKind t).2 = (tkKind t').2 := congrArg (fun x => x.2.2) h
  have h3 : t = t' := tkKind_injective (Prod.ext (congrArg Prod.snd h1) h2)
  rw [h3, show c = c' from congrArg Prod.fst h1]

def xtoks : Finset (GSem nD τ sig × ℕ × Fin 7) := Finset.univ.map ⟨tokOf, tokOf_injective⟩

/-- The ghost state the launch starts from. -/
def u₀ : UU := (initOf (Pipeline.cells cfgs cellOf_inj) (Pipeline.launchToks cfgs cellOf_inj), initOf xcells xtoks)

/-! ## Per device, before and after the deal -/

/-- The tokens of the payments into device `c`'s cells. -/
def toks (c : Dev nD) : sProp 𝕄 :=
  iprop((bigSep Finset.univ fun j : Fin 7 => dutyTok ER (barCell c) 0 j)
    ∗ (bigSep Finset.univ fun j : Fin 7 => dutyTok ER (sendCell c j) 0 0)
    ∗ bigSep Finset.univ fun j : Fin 7 => dutyTok ER (recvCell c j) 0 0)
/-- The tokens of the payments device `c` makes. -/
def payToks (c : Dev nD) : sProp 𝕄 :=
  iprop((bigSep Finset.univ fun j : Fin 7 => dutyTok ER (barCell (peer c j)) 0 j)
    ∗ (bigSep Finset.univ fun j : Fin 7 => dutyTok ER (sendCell c j) 0 0)
    ∗ bigSep Finset.univ fun j : Fin 7 => dutyTok ER (recvCell (tgt c j) j) 0 0)

/-- What is minted for device `c`. -/
def G (c : Dev nD) : sProp 𝕄 :=
  iprop((bigSep Finset.univ fun k : Kd => roundState ER (Rd A) (kcell (c, k)) 0)
    ∗ (bigSep Finset.univ fun k : Kd => iprop(atPos ER (kcell (c, k)) 0 ∅ 0 ∗ reached ER (kcell (c, k)) 0)) ∗ toks c)

/-- What device `c` holds once the cells' invariants are made. -/
def lin (c : Dev nD) : sProp 𝕄 := iprop((bigSep Finset.univ fun k : Kd => atPos ER (kcell (c, k)) 0 ∅ 0) ∗ payToks c)
def G' (c : Dev nD) : sProp 𝕄 := iprop(∃ K, records A K ∗ lin c)

omit [FloatOps F] in
theorem bigSep_Kd (Φ : Kd → sProp 𝕄) : bigSep Finset.univ Φ
    = iprop(Φ (.inl ()) ∗ (bigSep Finset.univ fun j : Fin 7 => Φ (.inr (.inl j))) ∗ bigSep Finset.univ fun j : Fin 7 => Φ (.inr (.inr j))) := by
  rw [bigSep_univ_sum, bigSep_univ_sum (fun b : Fin 7 ⊕ Fin 7 => Φ (.inr b)), bigSep_univ_of_subsingleton ()]
  rfl

omit [FloatOps F] in
theorem mint : BI.own (ER (initOf xcells xtoks)) ⊢ (|==> bigSep Finset.univ (G A) : sProp 𝕄) := by
  have hX (Φ : GSem nD τ sig → sProp 𝕄) : bigSep xcells Φ = bigSep Finset.univ fun c : Dev nD => bigSep Finset.univ fun k : Kd => Φ (kcell (c, k)) := by
    unfold xcells; rw [bigSep_map, bigSep_univ_prod]; rfl
  have hT : bigSep xtoks (fun x => (dutyTok ER x.1 x.2.1 x.2.2 : sProp 𝕄)) = bigSep Finset.univ fun c : Dev nD => toks c := by
    unfold xtoks; rw [bigSep_map, bigSep_univ_prod]
    refine bigSep_congr fun c _ => ?_
    unfold toks; rw [bigSep_univ_sum, bigSep_univ_sum]; rfl
  iintro HX
  imod (Rounds.fund ER (Rd A) xcells xtoks) $$ HX with ⟨Hst, Hr, Hat, Htok⟩
  imodintro
  ihave Hst' := (Entails.of_eq (hX fun g => roundState ER (Rd A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j : Fin 7 => semVal (sendCell c j) 0) ∗ bigSep Finset.univ fun j : Fin 7 => semVal (recvCell c j) 0) := by
  unfold Pipeline.ownSems0; rw [bigSep_univ_sum]; rfl

omit [FloatOps F] in
theorem zeros_eq (c : Dev nD) : (zeros c : sProp 𝕄)
    = iprop(unscopedSems0 c ∗ Pipeline.ownSems0 (Ix := Unit) (Name := ℕ) (U := UU) (Lvl := ℕ) (Val := Elt F) (τ := τ) osem c) := by
  rw [unscopedSems0_eq, ownSems0_eq]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Kd => semVal (kcell (c, k)) 0 : sProp 𝕄) := by
  rw [ownSems0_eq, unscopedSems0_eq, bigSep_Kd]
  iintro ⟨HS, HB⟩
  isplitl [HB]; · iexact HB
  iexact HS

omit [FloatOps F] in
/-- On each device the invariants of its cells are made from their counters and round states. -/
theorem core_alloc (c : Dev nD) :
    iprop(Pipeline.ownSems0 (Ix := Unit) (Name := ℕ) (U := UU) (Lvl := ℕ) (Val := Elt F) (τ := τ) osem c ∗ unscopedSems0 c ∗ G A c)
      ⊢ |={Set.univ}=> iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) := by
  have alloc : iprop((bigSep Finset.univ fun k : Kd => semVal (kcell (c, k)) 0) ∗ bigSep Finset.univ fun k : Kd => roundState ER (Rd A) (kcell (c, k)) 0)
      ⊢ (|={Set.univ}=> bigSep Finset.univ fun k => iprop(∃ κ : ℕ, cellInv ER (Rd A) κ (kcell (c, k))) : sProp 𝕄) := by
    rw [← bigSep_sep']
    exact (bigSep_mono fun k _ => (Rounds.body_intro ER (Rd A) (kcell (c, k))).trans inv_alloc).trans (bigSep_fupd _ _)
  unfold G
  iintro ⟨Hos, Hus, Hst, Hat, Htok⟩
  ihave Hv := (sems0_eq (F := F) c) $$ [Hos Hus]
  · isplitl [Hos] <;> iassumption
  imod alloc $$ [Hv Hst] with Hinv
  · isplitl [Hv] <;> iassumption
  imodintro
  isplitl [Hinv]; · iexact Hinv
  isplitl [Hat]; · iexact Hat
  iexact Htok

/-! ## The deal -/

omit [FloatOps F] in
/-- Re-indexing a family over devices and slots by a permutation of the devices for each slot. -/
theorem reindex (e : Fin 7 → Dev nD ≃ Dev nD) (Φ : Dev nD → Fin 7 → sProp 𝕄) :
    (bigSep Finset.univ fun c : Dev nD => bigSep Finset.univ fun j : Fin 7 => Φ c j)
      = bigSep Finset.univ fun c : Dev nD => bigSep Finset.univ fun j : Fin 7 => Φ (e j c) j := by
  rw [BI.bigSep_univ_comm, bigSep_congr (fun j _ => bigSep_univ_equiv (e j) (fun c => Φ c j)), BI.bigSep_univ_comm]

omit [FloatOps F] in
/-- Every token goes to the device that pays with it. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    reindex (fun j => (shift j).symm) (fun c j => (dutyTok ER (barCell c) 0 j : sProp 𝕄)),
    reindex (fun j => shift j) (fun c j => (dutyTok ER (recvCell c j) 0 0 : sProp 𝕄))]
  exact Entails.of_eq rfl

omit [FloatOps F] in
theorem beside_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem G'_intro (K : Dev nD × Kd → ℕ) (c : Dev nD) : iprop(records A K ∗ lin c) ⊢ G' A c := by
  unfold G'; iintro H; iexists K; iexact H

omit [FloatOps F] in
theorem regroup :
    (bigSep Finset.univ fun c : Dev nD => iprop((bigSep Finset.univ fun k => iprop(∃ κ : ℕ, cellInv ER (Rd A) κ (kcell (c, k))))
          ∗ (bigSep Finset.univ fun k => iprop(atPos ER (kcell (c, k)) 0 ∅ 0 ∗ reached ER (kcell (c, k)) 0)) ∗ toks c) : sProp 𝕄)
      ⊢ bigSep Finset.univ (G' A) := by
  rw [bigSep_sep', bigSep_sep', ← bigSep_univ_prod (fun ck : Dev nD × Kd => iprop(∃ κ : ℕ, cellInv ER (Rd A) κ (kcell ck))),
    bigSep_congr (s := Finset.univ) (fun (c : Dev nD) _ => bigSep_sep' Finset.univ (fun k : Kd => (atPos ER (kcell (c, k)) 0 ∅ 0 : sProp 𝕄)) (fun k => reached ER (kcell (c, k)) 0)),
    bigSep_sep', ← bigSep_univ_prod (fun ck : Dev nD × Kd => (reached ER (kcell ck) 0 : sProp 𝕄))]
  iintro ⟨HI, ⟨Hat, #HR⟩, Htok⟩
  ihave HK := (BI.bigSep_exists_pi Finset.univ (fun (ck : Dev nD × Kd) (κ : ℕ) => (cellInv ER (Rd A) κ (kcell ck) : sProp 𝕄))) $$ HI
  icases HK with ⟨%K, #HI⟩
  ihave Htk := (toks_around (F := F)) $$ Htok
  iapply (beside_persistent (R := records A K) fun c _ => G'_intro A K c)
  isplitr
  · unfold records; isplitl; · iexact HI
    iexact HR
  · unfold lin
    iapply (Entails.of_eq (bigSep_sep' Finset.univ (fun c : Dev nD => bigSep Finset.univ fun k : Kd => (atPos ER (kcell (c, k)) 0 ∅ 0 : sProp 𝕄)) payToks).symm)
    isplitl [Hat]; · iexact Hat
    iexact Htk

omit [FloatOps F] in
/-- The one step of the launch that involves all devices. -/
theorem glob : (bigSep Finset.univ fun c => iprop(Pipeline.ownSems0 (Ix := Unit) (Name := ℕ) (U := UU) (Lvl := ℕ) (Val := Elt F) (τ := τ) osem c ∗ unscopedSems0 c ∗ G A c) : sProp 𝕄)
    ⊢ |={Set.univ}=> bigSep Finset.univ (G' A) :=
  ((bigSep_mono fun c _ => core_alloc A c).trans (bigSep_fupd _ _)).trans (BI.fupd_mono (regroup A))

/-! ## The credit at launch -/

theorem O₀_sums (d : Dev nD) : O₀ d
    = (∑ j : Fin 7, tallyAt (recvCell (tgt d j) j) () N) + ∑ j : Fin 7, (tallyAt (barCell (peer d j)) () 1 : CellTallies nD τ sig Unit) := by
  have h1 : owR d 7 = ∑ j : Fin 7, tallyAt (recvCell (tgt d j) j) () N := by
    simp only [owR, Fin.sum_univ_seven, zero_add]; rfl
  have h2 : owB d 7 = owR d 7 + ∑ j : Fin 7, (tallyAt (barCell (peer d j)) () 1 : CellTallies nD τ sig Unit) := by
    have e (n : ℕ) : owB d (n + 1) = owB d n + tallyAt (barCell (peer d (Fin.ofNat 7 (6 - n)))) () 1 := rfl
    have e0 : owB d 0 = owR d 7 := rfl
    rw [e 6, e 5, e 4, e 3, e 2, e 1, e 0, e0, Fin.sum_univ_seven]
    show _ + tallyAt (barCell (peer d 6)) () 1 + tallyAt (barCell (peer d 5)) () 1 + tallyAt (barCell (peer d 4)) () 1 + tallyAt (barCell (peer d 3)) () 1
      + tallyAt (barCell (peer d 2)) () 1 + tallyAt (barCell (peer d 1)) () 1 + tallyAt (barCell (peer d 0)) () 1 = _
    ac_rfl
  unfold O₀; rw [h2, h1]

theorem bar_ne_recv (d c : Dev nD) (j : Fin 7) : barCell c ≠ recvCell d j := fun h => by cases congrArg Prod.snd h

theorem sum_at (g : GSem nD τ sig) (f : Fin 7 → GSem nD τ sig) (n : ℕ) :
    (∑ j : Fin 7, (tallyAt (f j) () n : CellTallies nD τ sig Unit)) g () = ∑ j : Fin 7, if g = f j then n else 0 := by
  rw [Finset.sum_apply, Finsupp.finsetSum_apply]
  refine Finset.sum_congr rfl fun j _ => ?_
  rw [tallyAt_apply]; simp

theorem owed_bar (d c : Dev nD) : O₀ d (barCell c) () = ∑ j : Fin 7, if c = peer d j then 1 else 0 := by
  rw [O₀_sums, Pi.add_apply, Finsupp.add_apply, sum_at, sum_at, Finset.sum_eq_zero fun j _ => if_neg (bar_ne_recv (tgt d j) c j), Nat.zero_add]
  refine Finset.sum_congr rfl fun j _ => ?_
  refine if_congr ⟨fun h => congrArg (fun g : GSem nD τ sig => g.1.1) h, fun h => h ▸ rfl⟩ rfl rfl

theorem owed_recv (d c : Dev nD) (j : Fin 7) : O₀ d (recvCell c j) () = if d = peer c j then N else 0 := by
  rw [O₀_sums, Pi.add_apply, Finsupp.add_apply, sum_at, sum_at, Finset.sum_eq_zero (f := fun i : Fin 7 => if recvCell c j = barCell (peer d i) then 1 else 0) fun i _ => if_neg (bar_ne_recv c (peer d i) j).symm, Nat.add_zero,
    Finset.sum_eq_single j]
  · refine if_congr ⟨fun h => ?_, fun h => ?_⟩ rfl rfl
    · have h' : c = tgt d j := congrArg (fun g : GSem nD τ sig => g.1.1) h
      rw [h', peer_tgt]
    · rw [h, tgt_peer]
  · intro i _ hi
    refine if_neg fun h => hi ?_
    have h' := csem_injective (a₁ := .inr (.inr j)) (a₂ := .inr (.inr i)) (congrArg Prod.snd h)
    exact (Sum.inr.inj (Sum.inr.inj h')).symm
  · intro h; exact absurd (Finset.mem_univ _) h

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide +kernel

theorem launch_recv (c : Dev nD) (j : Fin 7) :
    tallyOn (recvCell c j) (launchCredit (Pipeline.owing O₀) 0 (recvCell c j)) = (tallyAt (recvCell c j) () N : CellTallies nD τ sig Unit) := by
  unfold tallyAt; refine congrArg _ (Finsupp.ext fun u => ?_); cases u
  rw [Pipeline.launchCredit_owing, Finsupp.single_eq_same, Finset.sum_congr rfl fun d _ => owed_recv d c j, Finset.sum_ite_eq' Finset.univ (peer c j) fun _ => N,
    if_pos (Finset.mem_univ _)]

theorem recvS_injective : Function.Injective fun j : Fin 7 => (SemLoc.dma (recvS j.succ) : SemLoc sig) := fun i j h =>
  Sum.inr.inj (Sum.inr.inj (csem_injective (a₁ := .inr (.inr i)) (a₂ := .inr (.inr j)) h))

omit [FloatOps F] in
theorem creds (c : Dev nD) :
    (Pipeline.launchCred O₀ c : sProp 𝕄) ⊢ iprop(cred (tallyAt (barCell c) () 7) ∗ bigSep Finset.univ fun j : Fin 7 => cred (tallyAt (recvCell c j) () N)) := by
  unfold Pipeline.launchCred
  rw [bigSep_univ_at _ (SemLoc.reg barS), launch_bar]
  refine sep_mono_right ?_
  have hsub : Finset.univ.map ⟨fun j : Fin 7 => (SemLoc.dma (recvS j.succ) : SemLoc sig), recvS_injective⟩ ⊆ Finset.univ.erase (SemLoc.reg barS) := fun s hs => by
    obtain ⟨j, -, rfl⟩ := Finset.mem_map.mp hs
    exact Finset.mem_erase.mpr ⟨fun h => (by cases h), Finset.mem_univ _⟩
  refine (bigSep_subset hsub).trans ?_
  rw [bigSep_map]
  exact Entails.of_eq (bigSep_congr fun j _ => congrArg cred (launch_recv c j))

omit [FloatOps F] in
/-- What the deal leaves and the credit are what the body starts from. -/
theorem ghost_intro (c : Dev nD) :
    iprop(lin c ∗ cred (tallyAt (barCell c) () 7) ∗ bigSep Finset.univ fun j : Fin 7 => cred (tallyAt (recvCell c j) () N)) ⊢ (ghost c : sProp 𝕄) := by
  unfold lin ghost payToks
  rw [bigSep_Kd]
  iintro ⟨⟨⟨HaB, HaS, HaR⟩, HtB, HtS, HtR⟩, HcB, HcR⟩
  isplitl [HaB]; · iexact HaB
  isplitl [HcB]; · iexact HcB
  isplitl [HtB]; · iexact HtB
  isplitl [HtS]; · iexact HtS
  isplitl [HtR]; · iexact HtR
  isplitl [HaS]; · iexact HaS
  isplitl [HaR]; · iexact HaR
  iexact HcR

end Cert.Exchange

end
-- ==== Proof.Run.lean ====
/-
# The run of the whole mesh

The eight kernels launched together: what each holds when its body starts, the body's obligation, and the run of the
program. Every fair execution ends, the arguments are unchanged, every semaphore is back at zero and device `c`'s result
is the total `sumTo` of everyone's rows for `c`.
-/
module

public import proofs.«01_k».proof.Proof.Deal
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What is staged, and what the result is -/

/-- The memory at launch: any contents, every counter zero. -/
def s₀ : MemSt nD τ sig (Elt F) := ⟨m, fun _ => 0, ρ⟩

/-- Device `c`'s tokens, routes and expert matrices as staged. -/
def xs (c : Dev nD) : (cc0_stg0_0 : Ref sig .tc).ty.Contents (Elt F) := (win0_0.blk t0_0).view.read (Elt F) (m ((c : Thread nD τ).loc main_arg0))
def is (c : Dev nD) : (cc0_stg1_0 : Ref sig .tc).ty.Contents (Elt F) := (win0_1.blk t0_0).view.read (Elt F) (m ((c : Thread nD τ).loc main_arg2))
def ws (c : Dev nD) : (cc0_stg2_0 : Ref sig .tc).ty.Contents (Elt F) := (win0_2.blk t0_0).view.read (Elt F) (m ((c : Thread nD τ).loc main_arg3))

/-- Device `c`'s accumulator. -/
def accAt (c : Dev nD) : (cc0_scratch0 : Ref sig .tc).ty.Contents (Elt F) := accOf c (xs m c) (is m c) (ws m c)
/-- Device `c`'s result. -/
def outAt (c : Dev nD) : (cc0_stg3_0 : Ref sig .tc).ty.Contents (Elt F) := sumTo (accAt m) c 7

/-! ## The pipeline's proof data -/

/-- What device `c`'s body starts from, besides its buffers. -/
def start (c : Dev nD) : sProp 𝕄 := iprop((∃ K, records (accAt m) K) ∗ ghost c ∗ levAts L lv)

def dats (_ : Fin 1) (c : Dev nD) : Dat τ (Elt F) Unit ℕ UU ℕ cfg0 c where
  A w := m ((cfg0.win w).arr.view.loc (c : Thread nD τ))
  after w _ := match w with
    | ⟨0, _⟩ => xs m c
    | ⟨1, _⟩ => is m c
    | ⟨2, _⟩ => ws m c
    | ⟨3, _⟩ => outAt m c
  Φ t := match t with
    | ⟨0, _⟩ => iprop(start m c ∗ bufs c)
    | ⟨_ + 1, _⟩ => iprop(bufs c ∗ zeros c)
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` at contents `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem before_0 (c : Dev nD) (d) : (dats m 0 c).before (0 : Fin 4) t0_0 d = xs m c := by unfold Dat.before; rw [if_pos (fetch0_0 _)]; rfl
theorem before_1 (c : Dev nD) (d) : (dats m 0 c).before (1 : Fin 4) t0_0 d = is m c := by unfold Dat.before; rw [if_pos (fetch0_1 _)]; rfl
theorem before_2 (c : Dev nD) (d) : (dats m 0 c).before (2 : Fin 4) t0_0 d = ws m c := by unfold Dat.before; rw [if_pos (fetch0_2 _)]; rfl

def bodyPre (c : Dev nD) : sProp 𝕄 :=
  iprop((start m c ∗ bufs c) ∗ (dats m 0 c).owesAt () t0_0.castSucc
    ∗ (∃ d, stg c cc0_stg0_0 ((dats m 0 c).before (0 : Fin 4) t0_0 d))
    ∗ (∃ d, stg c cc0_stg1_0 ((dats m 0 c).before (1 : Fin 4) t0_0 d))
    ∗ (∃ d, stg c cc0_stg2_0 ((dats m 0 c).before (2 : Fin 4) t0_0 d))
    ∗ (∃ d, stg c cc0_stg3_0 ((dats m 0 c).before (3 : Fin 4) t0_0 d)))

def bodyPost (c : Dev nD) : sProp 𝕄 :=
  iprop((bufs c ∗ zeros c) ∗ (dats m 0 c).owesAt () t0_0.succ
    ∗ stg c cc0_stg0_0 (xs m c) ∗ stg c cc0_stg1_0 (is m c) ∗ stg c cc0_stg2_0 (ws m c) ∗ stg c cc0_stg3_0 (outAt m c))

theorem body_run (c : Dev nD) :
    bodyPre m c ⊢ WP c (cc0_body xM (Memref.isWhole_whole _) iM (Memref.isWhole_whole _) wM (Memref.isWhole_whole _) oM (Memref.isWhole_whole _)
      accM (Memref.isWhole_whole _) commM (Memref.isWhole_whole _) cc0_scratch2 cc0_scratch3) (fun _ => bodyPost m c) := by
  unfold bodyPre bodyPost start
  simp only [before_0, before_1, before_2]
  unfold Dat.owesAt Pipeline.owesWithin
  iintro ⟨⟨⟨⟨%K, HR⟩, Hg, HL⟩, Hb⟩, ⟨%W, -, HO⟩, ⟨%d0, %x, %hx, Hx⟩, ⟨%d1, %i, %hi, Hi⟩, ⟨%d2, %w, %hw, Hw⟩, ⟨%d3, %o, %ho, Ho⟩⟩
  subst hx hi hw
  iapply (body_wp (accAt m) K c (xs m c) (is m c) (ws m c) rfl) $$ [HR Hg HL Hb HO Hx Hi Hw Ho]
  · isplitl [HR]; · iexact HR
    isplitl [HL]; · iexact HL
    isplitl [HO]
    · unfold owesE; iexists W; iexact HO
    isplitl [Hg]; · iexact Hg
    isplitl [Hb]; · iexact Hb
    isplitl [Hx]; · iexact Hx
    isplitl [Hi]; · iexact Hi
    isplitl [Hw]; · iexact Hw
    iexists _; iexact Ho
  · unfold owesE
    iintro ⟨⟨%W', HO⟩, Hb, Hz, Hx, Hi, Hw, Ho⟩
    isplitl [Hb Hz]
    · isplitl [Hb] <;> iassumption
    isplitl [HO]
    · iexists W'
      isplitr; · ipureintro; exact fun _ _ => Or.inl trivial
      iexact HO
    isplitl [Hx]
    · iexists _; isplitr; · (ipureintro; rfl)
      iexact Hx
    isplitl [Hi]
    · iexists _; isplitr; · (ipureintro; rfl)
      iexact Hi
    isplitl [Hw]
    · iexists _; isplitr; · (ipureintro; rfl)
      iexact Hw
    iexists _; isplitr; · (ipureintro; rfl)
    iexact Ho

set_option maxRecDepth 4000 in
/-- The obligation of the body on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact body_run m c

/-! ## The launch -/

theorem share_eq (c : Dev nD) (w : Fin cfg0.W) : (dats m 0 c).share w = fullShare := by unfold Dat.share; split <;> rfl

/-- The argument the kernel does not read, kept whole. -/
def kept (c : Dev nD) : sProp 𝕄 := (((c : Thread nD τ).loc main_arg1) ↦{fullShare} m ((c : Thread nD τ).loc main_arg1))

theorem start_intro (c : Dev nD) :
    iprop(Pipeline.unscopedRestP Pipeline.Prefetch.none cfg0.spec c (fun b => m ((c.tc : Thread nD τ).loc b)) ∗ levAts L lv ∗ Pipeline.launchCred O₀ c ∗ prngReg c (ρ c) ∗ G' (accAt m) c)
      ⊢ |={Set.univ}=> iprop(start m c ∗ kept m c) := by
  rw [Pipeline.unscopedRestP_none]
  iintro ⟨Hu, Hlev, Hcr, -, HG⟩
  ihave Hu' := (Entails.of_eq (unscopedRest0_eq c fun b => m ((c.tc : Thread nD τ).loc b))) $$ Hu
  ihave Hc := (creds (F := F) c) $$ Hcr
  imodintro
  unfold start G' kept
  icases HG with ⟨%K, HR, Hl⟩
  isplitr [Hu']
  · isplitl [HR]; · iexists K; iexact HR
    isplitl [Hl Hc]
    · iapply (ghost_intro (F := F) c)
      isplitl [Hl] <;> iassumption
    iexact Hlev
  · iexact Hu'

theorem phi_enter (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ bufs c) from rfl, scopedRest0_eq]
  unfold bufs
  iintro ⟨Hs, -, Hr⟩
  isplitl [Hs] <;> iassumption

theorem phi_leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = iprop(bufs c ∗ zeros c) from rfl, scopedRest0_eq, zeros_eq]
  unfold bufs
  iintro ⟨Hr, Hu, Ho⟩
  isplitl [Hu]; · iexact Hu
  isplitl [Ho] <;> iassumption

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide +kernel) _ (by
      rcases t with ⟨_ | _, ht⟩
      · exact Or.inl rfl
      · exact Or.inr rfl)

def finalA (c : Dev nD) (w : Fin cfg0.W) : Buf (Elt F) ((cfg0.win w).arr.view.loc (c : Thread nD τ)) := (dats m 0 c).arrAt w cfg0.N

/-- The end of a run: each window's array as the pipeline leaves it, the fourth argument as at the start. -/
def Ends (s : MemSt nD τ sig (Elt F)) : Prop :=
  ∀ c : Dev nD, (∀ w : Fin cfg0.W, s.mem ((cfg0.win w).arr.view.loc (c : Thread nD τ)) = finalA m c w)
    ∧ s.mem ((c : Thread nD τ).loc main_arg1) = m ((c : Thread nD τ).loc main_arg1)

set_option maxRecDepth 8000 in
theorem run_ends : θ_run defs (onTc (τ := τ) (main (F := F))) (s₀ m ρ) (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (accAt m)) (G' := G' (accAt m)) (u₀ := u₀)
    (hu₀ := by
      unfold u₀
      iintro Hu
      ihave H := (ownU_pair _ _) $$ Hu
      icases H with ⟨HP, HX⟩
      imod (mint (accAt m)) $$ HX with HG
      imodintro
      isplitl [HP] <;> iassumption)
    (hglob := glob (accAt m))
    (hA := fun _ _ => rfl) (hpf := fun _ k => k.elim0)
    (X := start m) (Y := fun c => unscopedSems0 c) (Z := kept m)
    (hX := start_intro m ρ) (hin := phi_enter m) (hout := phi_leave m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold kept
      iintro ⟨Hu, Hk, HSI⟩
      imod (Pipeline.unscopedSems0_read (X := unscopedSems0 c) (c := c) fupd_intro s') $$ [Hu HSI] with ⟨%h1, HSI⟩
      · isplitl [Hu] <;> iassumption
      ihave H := (pointsTo_read_all {(main_arg1 : Ref sig .tc)} (fun b => (c : Thread nD τ).loc b) (fun b => m ((c : Thread nD τ).loc b)) s') $$ [Hk HSI]
      · isplitl [Hk]
        · iapply (Entails.of_eq (bigSep_singleton (i := (main_arg1 : Ref sig .tc)) (Φ := fun b => (((c : Thread nD τ).loc b) ↦{fullShare} m ((c : Thread nD τ).loc b) : sProp 𝕄))).symm)
          iexact Hk
        iexact HSI
      icases H with ⟨%h2, HSI⟩
      imodintro
      isplitr
      · ipureintro; exact ⟨h1, h2 _ (Finset.mem_singleton_self _)⟩
      iexact HSI)
    (hQ := fun _ h hs => ⟨fun c => ⟨(h c).1, (h c).2.2.2⟩, sem_eq_zero hs fun c => (h c).2.2.1⟩)

/-! ## The arrays at the end -/

theorem final_in0 (c : Dev nD) : finalA m c (0 : Fin 4) = m ((c : Thread nD τ).loc main_arg0) := (dats (F := F) m 0 c).arrAt_in (0 : Fin 4) rfl _
theorem final_in1 (c : Dev nD) : finalA m c (1 : Fin 4) = m ((c : Thread nD τ).loc main_arg2) := (dats (F := F) m 0 c).arrAt_in (1 : Fin 4) rfl _
theorem final_in2 (c : Dev nD) : finalA m c (2 : Fin 4) = m ((c : Thread nD τ).loc main_arg3) := (dats (F := F) m 0 c).arrAt_in (2 : Fin 4) rfl _

theorem xs_eq (c : Dev nD) : xs m c = m ((c : Thread nD τ).loc main_arg0) :=
  Memref.readAt_unit_zero (Elt F) main_arg0 (by decide +kernel) _ _
theorem is_eq (c : Dev nD) : is m c = m ((c : Thread nD τ).loc main_arg2) :=
  Memref.readAt_unit_zero (Elt F) main_arg2 (by decide +kernel) _ _
theorem ws_eq (c : Dev nD) : ws m c = m ((c : Thread nD τ).loc main_arg3) :=
  Memref.readAt_unit_zero (Elt F) main_arg3 (by decide +kernel) _ _

theorem flushed_out (c : Dev nD) (t : Fin cfg0.N) :
    (dats m 0 c).flushed (3 : Fin 4) t = ((cfg0.win (3 : Fin 4)).blk t).view.read (Elt F) (outAt m c) := by
  rw [fin_N0 t]
  exact (Memref.readAt_unit_zero (Elt F) main_v1 (by decide +kernel) _ _).symm

theorem cover_out (i : S32x256.Idx) : ∃ t : Fin cfg0.N, (cfg0.win (3 : Fin 4)).flush t = true ∧ i ∈ ((cfg0.win (3 : Fin 4)).blk t).view.set := by
  refine ⟨t0_0, flush0_3 _, ?_⟩
  show i ∈ ((View.whole main_v1).slice (win0_3.rect t0_0)).set
  rw [View.set_slice_whole]
  exact View.mem_set_unit_zero (by decide +kernel) _ i

theorem final_out (c : Dev nD) : finalA m c (3 : Fin 4) = outAt m c :=
  (dats m 0 c).arrAt_eq_of_cover (3 : Fin 4) (outAt m c) (fun t _ => flushed_out m c t) cover_out

/-- From any memory with every counter at zero, every fair run of the eight devices ends with the four arguments of each
    device unchanged, its result holding the total of everyone's rows for it, and every counter at zero. -/
theorem run_main : θ_run defs (onTc (τ := τ) (main (F := F))) (s₀ m ρ) (fun r => (∀ c : Dev nD,
      r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => ⟨((h.1 c).1 (3 : Fin 4)).trans (final_out m c), ((h.1 c).1 (0 : Fin 4)).trans (final_in0 m c), (h.1 c).2,
    ((h.1 c).1 (1 : Fin 4)).trans (final_in1 m c), ((h.1 c).1 (2 : Fin 4)).trans (final_in2 m c)⟩, h.2⟩) (run_ends m ρ)

end Cert.Exchange

end
-- ==== Proof.Routing.lean ====
/-
# Which expert's share each token takes

The routing both programs compute, in plain terms: a token's rank among the earlier tokens of its expert, and the share
that one expert adds to one entry of the result. The device's own sum over its two experts is then read as two shares.
-/
module

public import proofs.«01_k».proof.Proof.Body
public import Idealize.ShloMosaic.Lib.Pointwise

@[expose] public section

noncomputable section

namespace Cert.Exchange

open Cert.KernelIdeal Cert.KernelIdeal.Gen
open Idealize.ShloMosaic

set_option maxRecDepth 16384

/-- How many tokens before `t` go to the same expert as `t`. -/
def rank (ix : S256x1.Idx → BitVec 32) (t : Fin 256) : ℕ :=
  (Finset.univ.filter fun s : Fin 256 => s < t ∧ ix (ix2 s 0) = ix (ix2 t 0)).card

/-- Token `t` goes to expert number `e` and is among that expert's first twelve. -/
def Kept (ix : S256x1.Idx → BitVec 32) (e : ℕ) (t : Fin 256) : Prop :=
  ix (ix2 t 0) = BitVec.ofNat 32 e ∧ rank ix t < 12

/-- What expert number `e` with weights `w` adds to entry `(t, n)` of the result. -/
def share (x : S256x128.Idx → EReal) (ix : S256x1.Idx → BitVec 32) (e : ℕ) (w : Fin 128 → Fin 256 → EReal)
    (t n : Fin 256) : EReal :=
  open Classical in if Kept ix e t then ∑ k, x (ix2 t k) * w k n else 0

/-- The whole result: at each entry, the shares of all sixteen experts added up. -/
def total (x : S256x128.Idx → EReal) (ix : S256x1.Idx → BitVec 32) (w : (⟨3, ![16, 128, 256]⟩ : Shape).Idx → EReal) :
    S256x256.Idx → EReal :=
  fun j => ∑ e : Fin 16, share x ix e.val (fun k n => w (ix3 e k n)) (j 0) (j 1)

/-- A one-bit word, widened and converted, is the number one or zero. -/
theorem sitofp_bit (p : Prop) [Decidable p] :
    FloatOps.sitofp (F := Ideal) FTy.f32 (BitVec.setWidth 32 (BitVec.ofBool (decide p))) = (if p then 1 else 0 : EReal) := by
  show ((BitVec.toInt _ : ℝ) : EReal) = _
  by_cases h : p <;> simp [h]

/-- The word comparison for equality, as a bit. -/
theorem cmpi_eq_bit (a b : BitVec 32) : IntOp.cmpi .eq a b = BitVec.ofBool (decide (a = b)) := by
  by_cases h : a = b
  · simp [IntOp.cmpi, h]
  · simp only [IntOp.cmpi, beq_eq_false_iff_ne.2 h, h, decide_false]

/-- The signed comparison of two token numbers, as a bit. -/
theorem cmpi_sgt_bit (t s : Fin 256) :
    IntOp.cmpi .sgt (BitVec.ofNat 32 t) (BitVec.ofNat 32 s) = BitVec.ofBool (decide (s < t)) := by
  have := t.isLt
  have := s.isLt
  simp only [IntOp.cmpi]
  congr 1
  rw [BitVec.slt_eq_decide]
  congr 1
  rw [BitVec.toInt_eq_toNat_of_lt (by simp; omega), BitVec.toInt_eq_toNat_of_lt (by simp; omega)]
  simp only [BitVec.toNat_ofNat]
  rw [Fin.lt_def, Nat.mod_eq_of_lt (by omega), Nat.mod_eq_of_lt (by omega)]
  simp

/-- The printed threshold is eleven and a half. -/
theorem threshold_eq : Ideal.ofBits FTy.f32 1094189056#32 = ((11.5 : ℝ) : EReal) := by
  simp [Ideal.ofBits, Ideal.ieee, -EReal.coe_mul]
  norm_num

/-- A natural number is below eleven and a half exactly when it is below twelve. -/
theorem natCast_lt_threshold (n : ℕ) : ((n : EReal) < ((11.5 : ℝ) : EReal)) ↔ n < 12 := by
  rw [← EReal.coe_natCast, EReal.coe_lt_coe_iff]
  constructor
  · intro h
    by_contra h'
    have : (12 : ℝ) ≤ n := by exact_mod_cast Nat.le_of_not_lt h'
    linarith
  · intro h
    have : (n : ℝ) ≤ 11 := by exact_mod_cast Nat.le_of_lt_succ h
    linarith

/-- Expert numbers below sixteen are told apart by their words. -/
theorem ofNat_expert_inj (a b : Fin 16) : BitVec.ofNat 32 a = BitVec.ofNat 32 b ↔ a = b := by
  constructor
  · intro h
    have := congrArg BitVec.toNat h
    have := a.isLt
    have := b.isLt
    simp only [BitVec.toNat_ofNat] at *
    ext
    omega
  · rintro rfl
    rfl

/-- The kernel's position of a token that goes to an expert is the token's rank. -/
theorem position_eq (ix : S256x1.Idx → BitVec 32) (t : Fin 256) (e : Fin 16) (h : ix (ix2 t 0) = BitVec.ofNat 32 e) :
    (∑ y : Fin 16, (∑ s : Fin 256, (if s < t then 1 else 0 : EReal) * (if BitVec.ofNat 32 y = ix (ix2 s 0) then 1 else 0)) *
        (if BitVec.ofNat 32 y = ix (ix2 t 0) then 1 else 0)) = (rank ix t : EReal) := by
  rw [h]
  simp only [ofNat_expert_inj, mul_ite, mul_one, mul_zero, Finset.sum_ite_eq', Finset.mem_univ, if_true]
  rw [rank, h]
  simp only [← ite_and]
  rw [Finset.sum_boole]
  congr 2
  ext s
  simp [and_comm, eq_comm]

/-- The kernel's mask of kept tokens, at a token that goes to an expert. -/
theorem keep_at (ix : Vec Ideal S256x1 .i32) (t : Fin 256) (e : Fin 16) (h : ix (ix2 t 0) = BitVec.ofNat 32 e) :
    k0_pay2 (F := Ideal) ix (ix2 t 0) = (if rank ix t < 12 then 1 else 0 : EReal) := by
  pointwise [k0_pay2, k0_pay1]
  simp only [cmpi_eq_bit, cmpi_sgt_bit, sitofp_bit]
  rw [position_eq ix t e h, threshold_eq]
  simp only [natCast_lt_threshold]

/-- The kernel's mask of one expert's tokens times the mask of kept tokens. -/
theorem mask_at (ix : Vec Ideal S256x1 .i32) (t : Fin 256) (e : Fin 16) :
    (if ix (ix2 t 0) = BitVec.ofNat 32 e then 1 else 0 : EReal) * k0_pay2 (F := Ideal) ix (ix2 t 0)
      = open Classical in if Kept ix e t then 1 else 0 := by
  by_cases h : ix (ix2 t 0) = BitVec.ofNat 32 e
  · rw [if_pos h, keep_at ix t e h, one_mul]
    simp [Kept, h]
  · rw [if_neg h, zero_mul, if_neg (fun k => h k.1)]

/-- Rows masked and then multiplied by an expert's weights are that expert's share. -/
theorem masked_sum (x : S256x128.Idx → EReal) (ix : S256x1.Idx → BitVec 32) (e : ℕ) (w : Fin 128 → Fin 256 → EReal)
    (t n : Fin 256) (q : EReal) (hq : q = open Classical in if Kept ix e t then 1 else 0) :
    ∑ k, x (ix2 t k) * q * w k n = share x ix e w t n := by
  rw [hq, share]
  split <;> simp

/-- The number of a device's first expert, as the kernel computes it. -/
theorem first_expert (c : Dev nD) : Scalar.addi (Scalar.muli (idxW c) 2#32) 0#32 = BitVec.ofNat 32 (2 * c.val) := by
  revert c
  decide +kernel

/-- The number of a device's second expert, as the kernel computes it. -/
theorem second_expert (c : Dev nD) : Scalar.addi (Scalar.muli (idxW c) 2#32) 1#32 = BitVec.ofNat 32 (2 * c.val + 1) := by
  revert c
  decide +kernel

/-- The first of a device's two weight matrices, entry by entry. -/
theorem w0_at (w : FVec Ideal S2x128x256 .f32) (k : Fin 128) (n : Fin 256) : w0 (F := Ideal) w (ix3 0 k n) = w (ix3 0 k n) := by
  refine congrArg w ?_
  funext a
  match a with
  | 0 => rfl
  | 1 => apply Fin.ext; show 0 + 1 * k.val = k.val; omega
  | 2 => apply Fin.ext; show 0 + 1 * n.val = n.val; omega

/-- The second of a device's two weight matrices, entry by entry. -/
theorem w1_at (w : FVec Ideal S2x128x256 .f32) (k : Fin 128) (n : Fin 256) : w1 (F := Ideal) w (ix3 0 k n) = w (ix3 1 k n) := by
  refine congrArg w ?_
  funext a
  match a with
  | 0 => rfl
  | 1 => apply Fin.ext; show 0 + 1 * k.val = k.val; omega
  | 2 => apply Fin.ext; show 0 + 1 * n.val = n.val; omega

/-- What a device adds up is the shares of its two experts. -/
theorem accOf_at (c : Dev nD) (x : FVec Ideal S256x128 .f32) (ix : Vec Ideal S256x1 .i32) (w : FVec Ideal S2x128x256 .f32)
    (t n : Fin 256) :
    accOf (F := Ideal) c x ix w (ix2 t n)
      = share x ix (2 * c.val) (fun k n => w (ix3 0 k n)) t n + share x ix (2 * c.val + 1) (fun k n => w (ix3 1 k n)) t n := by
  have hc : c.val < 8 := c.isLt
  have h0 : (2 * c.val : ℕ) < 16 := by omega
  have h1 : (2 * c.val + 1 : ℕ) < 16 := by omega
  unfold accOf
  pointwise [k0_pay6, k0_pay5, k0_pay4, k0_pay3, k0_pay1]
  simp only [cmpi_eq_bit, sitofp_bit, first_expert, second_expert, w0_at, w1_at]
  congr 1
  · exact masked_sum x ix (2 * c.val) (fun k n => w (ix3 0 k n)) t n _ (mask_at ix t ⟨2 * c.val, h0⟩)
  · exact masked_sum x ix (2 * c.val + 1) (fun k n => w (ix3 1 k n)) t n _ (mask_at ix t ⟨2 * c.val + 1, h1⟩)

/-- A row block read from a device's sum, entry by entry. -/
theorem rowV_at (A : Dev nD → (cc0_scratch0 : Ref sig .tc).ty.Contents (Elt Ideal)) (d s : Dev nD) (i : Fin 32) (n : Fin 256) :
    rowV A d s (ix2 i n) = A s (ix2 ⟨32 * d.val + i.val, by have hd : d.val < 8 := d.isLt; have hi := i.isLt; omega⟩ n) := by
  refine congrArg (A s) ?_
  funext a
  match a with
  | 0 => apply Fin.ext; show 32 * d.val + 1 * i.val = 32 * d.val + i.val; omega
  | 1 => apply Fin.ext; show 0 + 1 * n.val = n.val; omega

/-- A sum over all devices begins with any one of them and goes on with its seven peers in order. -/
theorem sum_devices {M : Type*} [AddCommMonoid M] (f : Fin 8 → M) (c : Fin 8) :
    ((((((f c + f (peer c 0)) + f (peer c 1)) + f (peer c 2)) + f (peer c 3)) + f (peer c 4)) + f (peer c 5)) + f (peer c 6)
      = ∑ s, f s := by
  have h : ∀ c : Fin 8, c = c + 0 ∧ peer c 0 = c + 1 ∧ peer c 1 = c + 2 ∧ peer c 2 = c + 3 ∧ peer c 3 = c + 4
      ∧ peer c 4 = c + 5 ∧ peer c 5 = c + 6 ∧ peer c 6 = c + 7 := by decide
  obtain ⟨h0, h1, h2, h3, h4, h5, h6, h7⟩ := h c
  rw [← Equiv.sum_comp (Equiv.addLeft c) f, Fin.sum_univ_eight, h1, h2, h3, h4, h5, h6, h7]
  simp only [Equiv.coe_addLeft, add_zero]

/-- The total a device ends with is the sum over all devices. -/
theorem sumTo_at (A : Dev nD → (cc0_scratch0 : Ref sig .tc).ty.Contents (Elt Ideal)) (c : Dev nD) (j : S32x256.Idx) :
    sumTo A c 7 j = ∑ s : Fin 8, (rowV A c s j : EReal) :=
  sum_devices (fun s => (rowV A c s j : EReal)) c

end Cert.Exchange
-- ==== Proof.Ref.lean ====
/-
# The reference's result

The reference masks every expert's product and adds the sixteen of them up. Entry by entry that is `total`.
-/
module

public import proofs.«01_k».proof.Proof.Routing
public import proofs.«01_k».proof.Proof.Gen.ReferenceIdeal.Run
public import Idealize.ShloMosaic.Lib.IndicatorCount

@[expose] public section

noncomputable section

namespace Cert.Exchange

open Cert.ReferenceIdeal Cert.ReferenceIdeal.Gen
open Idealize.ShloMosaic Idealize.ShloMosaic.TcCoe
open Idealize.SL.Sem

set_option maxRecDepth 16384

/-- The signed comparison of two token numbers, the smaller one first, as a bit. -/
theorem cmpi_slt_bit (s t : Fin 256) :
    IntOp.cmpi .slt (BitVec.ofNat 32 s) (BitVec.ofNat 32 t) = BitVec.ofBool (decide (s < t)) := by
  rw [← cmpi_sgt_bit]
  rfl

/-- The bit of a conjunction. -/
theorem andi_bit (p q : Prop) [Decidable p] [Decidable q] :
    IntOp.andi (BitVec.ofBool (decide p)) (BitVec.ofBool (decide q)) = BitVec.ofBool (decide (p ∧ q)) := by
  by_cases hp : p <;> by_cases hq : q <;> simp [IntOp.andi, hp, hq]

/-- The bit of a proposition is set exactly when it holds. -/
theorem bit_eq_one (p : Prop) [Decidable p] : BitVec.ofBool (decide p) = 1#1 ↔ p := by
  by_cases hp : p <;> simp [hp]

/-- The reference's count of earlier tokens at the same expert is the rank. -/
theorem count_eq (ix : S256x1.Idx → BitVec 32) (t : Fin 256) :
    Finset.fold IntOp.addi (0#32) (fun s : Fin 256 => BitVec.setWidth 32
        (BitVec.ofBool (decide (ix (ix2 t 0) = ix (ix2 s 0) ∧ s < t)))) Finset.univ = BitVec.ofNat 32 (rank ix t) := by
  rw [IndicatorCount.fold_addi_setWidth_eq_card (fun s : Fin 256 => BitVec.ofBool (decide (ix (ix2 t 0) = ix (ix2 s 0) ∧ s < t)))]
  congr 1
  rw [rank]
  congr 1
  ext s
  simp only [Finset.mem_filter, Finset.mem_univ, true_and, bit_eq_one]
  rw [and_comm, eq_comm (a := ix (ix2 t 0))]

/-- A rank is at most the number of tokens. -/
theorem rank_le (ix : S256x1.Idx → BitVec 32) (t : Fin 256) : rank ix t ≤ 256 :=
  (Finset.card_le_univ _).trans (by simp)

/-- The reference's comparison of a rank with the capacity, as a bit. -/
theorem capacity_bit (ix : S256x1.Idx → BitVec 32) (t : Fin 256) :
    IntOp.cmpi .slt (BitVec.ofNat 32 (rank ix t)) 12#32 = BitVec.ofBool (decide (rank ix t < 12)) := by
  have h := rank_le ix t
  simp only [IntOp.cmpi]
  congr 1
  rw [BitVec.slt_eq_decide]
  congr 1
  rw [BitVec.toInt_eq_toNat_of_lt (by simp; omega), BitVec.toInt_eq_toNat_of_lt (by decide)]
  simp only [BitVec.toNat_ofNat]
  rw [Nat.mod_eq_of_lt (by omega)]
  norm_cast

/-- A selection between a value and zero by the bit of a proposition. -/
theorem select_bit (p : Prop) [Decidable p] (a b : EReal) :
    Scalar.select (BitVec.ofBool (decide p)) a b = if p then a else b := by
  by_cases hp : p <;> simp [Scalar.select, hp]

/-- The reference ends with `total` of its arguments, its arguments unchanged. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v29) = total (m ((c.tc : Thread nD τ).loc main_arg0))
          (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans ?_, (h c).2⟩) (Value.run m ρ)
  generalize m ((c.tc : Thread nD τ).loc main_arg0) = x
  generalize m ((c.tc : Thread nD τ).loc main_arg2) = ix
  generalize m ((c.tc : Thread nD τ).loc main_arg3) = w
  change FVec Ideal S256x128 .f32 at x
  change IVec S256x1 32 at ix
  change FVec Ideal S16x128x256 .f32 at w
  funext j
  obtain ⟨t, n, rfl⟩ : ∃ (t n : Fin 256), j = ix2 t n := ⟨j 0, j 1, eq_ix2 j⟩
  pointwise
  refine Finset.sum_congr rfl fun e _ => ?_
  simp only [cmpi_eq_bit, cmpi_slt_bit, andi_bit]
  rw [count_eq ix t, capacity_bit, andi_bit, select_bit]
  have hz : (id (constant (F := Ideal) S_ FTy.f32 0#32) ix0 : EReal) = 0 := Ideal.ofBits_zero_f32
  rw [hz]
  unfold share Kept
  congr

end Cert.Exchange
-- ==== Proof.Equation.lean ====
/-
# The two programs agree

Each device's result, read entry by entry, is its block of `total`. With the run of the kernel and the run of the
reference this gives the claims.
-/
module

public import proofs.«01_k».proof.Proof.Run
public import proofs.«01_k».proof.Proof.Ref
public import proofs.«01_k».proof.Proof.Gen.Kernel
public import proofs.«01_k».proof.Defs

@[expose] public section

noncomputable section

namespace Cert.Exchange

open Cert.KernelIdeal Cert.KernelIdeal.Gen
open Idealize.ShloMosaic Idealize.ShloMosaic.TcCoe
open Idealize.SL.Sem

set_option maxRecDepth 16384

/-- A device's weights are the matrices of its two experts. -/
theorem weights_at (W : FVec Ideal ⟨3, ![16, 128, 256]⟩ .f32) (s : Fin 8) (l : Fin 2) (k : Fin 128) (n : Fin 256) :
    (Layout.block ⟨3, ![2, 128, 256]⟩ ⟨3, ![16, 128, 256]⟩ 0 8 s W) (ix3 l k n)
      = W (ix3 (⟨s.val * 2 + l.val, by have := s.isLt; have := l.isLt; omega⟩ : Fin 16) k n) := by
  rw [Layout.block_apply]
  refine congrArg W ?_
  funext a
  match a with
  | 0 => rfl
  | 1 => rfl
  | 2 => rfl

/-- A row of a device's block of the whole result. -/
theorem rows_at (V : FVec Ideal ⟨2, ![256, 256]⟩ .f32) (c : Fin 8) (i : Fin 32) (n : Fin 256) :
    (Layout.block ⟨2, ![32, 256]⟩ ⟨2, ![256, 256]⟩ 0 8 c V) (ix2 i n)
      = V (ix2 (⟨32 * c.val + i.val, by have := c.isLt; have := i.isLt; omega⟩ : Fin 256) n) := by
  rw [Layout.block_apply]
  refine congrArg V ?_
  funext a
  match a with
  | 0 => apply Fin.ext; show c.val * 32 + i.val = 32 * c.val + i.val; omega
  | 1 => rfl

/-- An entry of the whole result, the sixteen shares taken two to a device. -/
theorem total_at (x : FVec Ideal S256x128 .f32) (ix : IVec S256x1 32) (W : FVec Ideal ⟨3, ![16, 128, 256]⟩ .f32) (t n : Fin 256) :
    total x ix W (ix2 t n) = ∑ s : Fin 8,
      (share x ix (2 * s.val)
          (fun k n => (Layout.block ⟨3, ![2, 128, 256]⟩ ⟨3, ![16, 128, 256]⟩ 0 8 s W) (ix3 0 k n)) t n
        + share x ix (2 * s.val + 1)
          (fun k n => (Layout.block ⟨3, ![2, 128, 256]⟩ ⟨3, ![16, 128, 256]⟩ 0 8 s W) (ix3 1 k n)) t n) := by
  unfold total
  rw [Fin.sum_univ_tiles 8 2 rfl]
  refine Finset.sum_congr rfl fun s _ => ?_
  rw [Fin.sum_univ_two, Nat.mul_comm 2 s.val]
  congr 2
  · funext k n
    exact (weights_at W s 0 k n).symm
  · funext k n
    exact (weights_at W s 1 k n).symm

/-- A device's result, when all devices hold the same tokens and routes and their own two experts' weights, is its block
    of rows of the whole result. -/
theorem outAt_eq (m : (ℓ : Loc nD τ sig) → Buf (Elt Ideal) ℓ) (x : FVec Ideal S256x128 .f32) (ix : IVec S256x1 32)
    (W : FVec Ideal ⟨3, ![16, 128, 256]⟩ .f32) (hx : ∀ c, xs m c = x) (hi : ∀ c, is m c = ix)
    (hw : ∀ c, ws m c = Layout.block ⟨3, ![2, 128, 256]⟩ ⟨3, ![16, 128, 256]⟩ 0 8 c W) (c : Dev nD) :
    outAt m c = Layout.block ⟨2, ![32, 256]⟩ ⟨2, ![256, 256]⟩ 0 8 c (total x ix W) := by
  funext j
  obtain ⟨i, n, rfl⟩ : ∃ (i : Fin 32) (n : Fin 256), j = ix2 i n := ⟨j 0, j 1, eq_ix2 j⟩
  refine Eq.trans ?_ (rows_at (total x ix W) c i n).symm
  unfold outAt
  rw [sumTo_at]
  simp only [rowV_at]
  unfold accAt
  simp only [hx, hi, hw, accOf_at]
  exact (total_at x ix W _ n).symm

/-! ## The claims -/

/-- At any reading of the floats, the kernel ends with its arguments unchanged and every semaphore at zero. -/
theorem frame_any {F : FTy → Type} [FloatOps F] (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => (h.1 c).2, h.2⟩) (run_main m ρ)

section
attribute [local instance] Cert.Kernel.Gen.facts

/-- The kernel as printed and the idealized one have the same body. -/
theorem bodies_eq {F : FTy → Type} [FloatOps F] : Cert.Kernel.defs₀ (F := F) = Cert.KernelIdeal.defs₀ (F := F) :=
  congrArg Defs.onTc (funext fun l => funext fun a => match l, a with
    | 0, _ => rfl
    | ⟨_ + 1, h⟩, _ => absurd h (Nat.not_lt.2 (Nat.le_add_left _ _)))

/-- The kernel as printed and the idealized one call the same programs. -/
theorem defs_eq {F : FTy → Type} [FloatOps F] : Cert.Kernel.defs (F := F) = Cert.KernelIdeal.defs (F := F) :=
  congrArg (Pipeline.defs Cert.KernelIdeal.pcfgs) bodies_eq

/-- The kernel as printed ends with its arguments unchanged and every semaphore at zero. -/
theorem frame_kernel : Cert.quiescent_Kernel (hKernel := Cert.Kernel.Gen.facts) := fun m ρ _ => by
  rw [defs_eq]
  exact frame_any (F := Bits) m ρ

end

/-- The idealized kernel ends with its arguments unchanged and every semaphore at zero. -/
theorem frame_ideal : Cert.quiescent_KernelIdeal (hKernelIdeal := Cert.KernelIdeal.Gen.facts) := fun m ρ _ =>
  frame_any (F := Ideal) m ρ

/-- The reference ends with its arguments unchanged; it has no semaphores. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (run_reference m ρ)

/-- The kernel's devices end holding the blocks of what the reference ends holding. -/
theorem same_result : Cert.algebraic_KernelIdeal_ReferenceIdeal (hKernelIdeal := Cert.KernelIdeal.Gen.facts)
    (hReferenceIdeal := Cert.ReferenceIdeal.Gen.facts) := fun m ρ m' ρ' _ hm => by
  refine ⟨_, ?_, (θ_run Cert.ReferenceIdeal.defs _ _).mono (fun r h => h 0) (run_reference m' ρ')⟩
  refine (θ_run Cert.KernelIdeal.defs _ _).mono (fun r h c => ⟨(h.1 c).1.trans ?_, (h.1 c).2⟩) (run_main (F := Ideal) m ρ)
  exact outAt_eq m _ _ _ (fun d => (xs_eq m d).trans (hm d).1) (fun d => (is_eq m d).trans (hm d).2.2.1)
    (fun d => (ws_eq m d).trans (hm d).2.2.2) c

end Cert.Exchange
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claims of `Defs`: the three frames, the idealization and the equality of the results. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial, Cert.Exchange.same_result⟩

end Cert.Proof

end
